-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel2_Kernel2Ideal : Prop :=
  True

def algebraic_Kernel2Ideal_Reference2Ideal_on_columns_of_proj [hKernel2Ideal : Cert.Kernel2Ideal.Facts] [hReference2Ideal : Cert.Reference2Ideal.Facts] [hOn_columns_of_proj : Cert.On_columns_of_proj.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![9216, 12800]⟩ : Shape).Idx, (Cert.On_columns_of_proj.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) i = 1#1 → r.2.mem ((c.tc : Thread Cert.Kernel2Ideal.nD Cert.Kernel2Ideal.τ).loc Cert.Kernel2Ideal.main_v3) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![9216, 12800]⟩ : Shape).Idx, (Cert.On_columns_of_proj.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) i = 1#1 → r.2.mem ((c.tc : Thread Cert.Reference2Ideal.nD Cert.Reference2Ideal.τ).loc Cert.Reference2Ideal.main_v6) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hOn_columns_of_proj : Cert.On_columns_of_proj.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal_on_columns_of_proj (hKernel2Ideal := hKernel2Ideal) (hReference2Ideal := hReference2Ideal) (hOn_columns_of_proj := hOn_columns_of_proj)
    ∧ preserves_Kernel3_Kernel3Ideal
    ∧ algebraic_Kernel3Ideal_Reference3Ideal (hKernel3Ideal := hKernel3Ideal) (hReference3Ideal := hReference3Ideal)
-- ==== On_columns_of_proj.lean ====
abbrev S9216x4096 : Shape := ⟨2, ![9216, 4096]⟩
abbrev S1x4096x12768 : Shape := ⟨3, ![1, 4096, 12768]⟩
abbrev S9216x12800 : Shape := ⟨2, ![9216, 12800]⟩
abbrev S_ : Shape := ⟨0, ![]⟩

class Facts : Prop where
  bcast_S_S9216x12800 : S_.BroadcastsInDim S9216x12800 (![] : Fin 0 → Fin S9216x12800.rank)

variable [Facts]

def fn {F : FTy → Type} [FloatOps F] (main_arg0 : FVec F S9216x4096 .f32) (main_arg1 : FVec F S1x4096x12768 .f32) : IVec S9216x12800 1 :=
  let main_v0 : IVec S9216x12800 32 := iotaInDim S9216x12800 32 1
  let main_c : IVec S_ 32 := constantI S_ 32 12736#32
  let main_v1 : IVec S9216x12800 32 := broadcastInDim S9216x12800 ![] bcast_S_S9216x12800 main_c
  let main_v2 : IVec S9216x12800 1 := cmpi .slt main_v0 main_v1
  main_v2
-- ==== Kernel.lean ====
abbrev S9216x12800 : Shape := ⟨2, ![9216, 12800]⟩
abbrev S1x16x1x6592 : Shape := ⟨4, ![1, 16, 1, 6592]⟩
abbrev S1x16x32x64x64 : Shape := ⟨5, ![1, 16, 32, 64, 64]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S1x32x64 : Shape := ⟨3, ![1, 32, 64]⟩
abbrev S_ : Shape := ⟨0, ![]⟩
abbrev S4x1x6592 : Shape := ⟨3, ![4, 1, 6592]⟩
abbrev S16x1x6592 : Shape := ⟨3, ![16, 1, 6592]⟩
abbrev S20x1x6592 : Shape := ⟨3, ![20, 1, 6592]⟩
abbrev S20x7x6656 : Shape := ⟨3, ![20, 7, 6656]⟩
abbrev S20x1x64 : Shape := ⟨3, ![20, 1, 64]⟩
abbrev S20x1x6656 : Shape := ⟨3, ![20, 1, 6656]⟩
abbrev S20x8x6656 : Shape := ⟨3, ![20, 8, 6656]⟩
abbrev S4x16x64x128 : Shape := ⟨4, ![4, 16, 64, 128]⟩
abbrev S16x32x64x64 : Shape := ⟨4, ![16, 32, 64, 64]⟩
abbrev S16x16x2x64x64 : Shape := ⟨5, ![16, 16, 2, 64, 64]⟩
abbrev S16x16x64x2x64 : Shape := ⟨5, ![16, 16, 64, 2, 64]⟩
abbrev S16x16x64x128 : Shape := ⟨4, ![16, 16, 64, 128]⟩
abbrev S20x16x64x128 : Shape := ⟨4, ![20, 16, 64, 128]⟩
abbrev S6592 : Shape := ⟨1, ![6592]⟩
abbrev S1x64 : Shape := ⟨2, ![1, 64]⟩
abbrev S1x6656 : Shape := ⟨2, ![1, 6656]⟩
abbrev S2048 : Shape := ⟨1, ![2048]⟩
abbrev S96x2048 : Shape := ⟨2, ![96, 2048]⟩
abbrev S32x2048 : Shape := ⟨2, ![32, 2048]⟩
abbrev S128x2048 : Shape := ⟨2, ![128, 2048]⟩
abbrev S256x2048 : Shape := ⟨2, ![256, 2048]⟩
abbrev S32x64 : Shape := ⟨2, ![32, 64]⟩
abbrev S9216x2048 : Shape := ⟨2, ![9216, 2048]⟩
abbrev S64x6144 : Shape := ⟨2, ![64, 6144]⟩
abbrev S64x512 : Shape := ⟨2, ![64, 512]⟩
abbrev S1x8x6656 : Shape := ⟨3, ![1, 8, 6656]⟩
abbrev S1x16x64x128 : Shape := ⟨4, ![1, 16, 64, 128]⟩
abbrev S64x2048 : Shape := ⟨2, ![64, 2048]⟩
abbrev S72x6144 : Shape := ⟨2, ![72, 6144]⟩
abbrev S72x512 : Shape := ⟨2, ![72, 512]⟩
abbrev S1024x256 : Shape := ⟨2, ![1024, 256]⟩
abbrev S1024x128 : Shape := ⟨2, ![1024, 128]⟩
abbrev S16x256x128 : Shape := ⟨3, ![16, 256, 128]⟩
abbrev S1x8x6144 : Shape := ⟨3, ![1, 8, 6144]⟩
abbrev S8x6144 : Shape := ⟨2, ![8, 6144]⟩
abbrev S1x8x512 : Shape := ⟨3, ![1, 8, 512]⟩
abbrev S8x512 : Shape := ⟨2, ![8, 512]⟩
abbrev S16x64x128 : Shape := ⟨3, ![16, 64, 128]⟩
abbrev S1x6144 : Shape := ⟨2, ![1, 6144]⟩
abbrev S1x512 : Shape := ⟨2, ![1, 512]⟩
abbrev S64x128 : Shape := ⟨2, ![64, 128]⟩
abbrev S64x256 : Shape := ⟨2, ![64, 256]⟩
abbrev S128x128 : Shape := ⟨2, ![128, 128]⟩
abbrev S256x256 : Shape := ⟨2, ![256, 256]⟩
abbrev S256x128 : Shape := ⟨2, ![256, 128]⟩
abbrev S1x1x64x128 : Shape := ⟨4, ![1, 1, 64, 128]⟩
abbrev S1x256x128 : Shape := ⟨3, ![1, 256, 128]⟩
abbrev S128x64 : Shape := ⟨2, ![128, 64]⟩
abbrev S64x64 : Shape := ⟨2, ![64, 64]⟩
abbrev S8x2048 : Shape := ⟨2, ![8, 2048]⟩
abbrev S1x128 : Shape := ⟨2, ![1, 128]⟩
abbrev S32x128 : Shape := ⟨2, ![32, 128]⟩
abbrev S32x256 : Shape := ⟨2, ![32, 256]⟩
abbrev S512x256 : Shape := ⟨2, ![512, 256]⟩

abbrev nBuf : Space → Nat
  | .hbm => 61
  | .vmem => 34
  | .smem => 0
  | _ => 0

abbrev bufTy : (tb : Table) → Fin (tcTables nBuf tb) → BufTy
  | .hbm, ⟨0, _⟩ => ⟨S9216x12800, .f32⟩
  | .hbm, ⟨1, _⟩ => ⟨S1x16x1x6592, .f32⟩
  | .hbm, ⟨2, _⟩ => ⟨S1x16x32x64x64, .f32⟩
  | .hbm, ⟨3, _⟩ => ⟨S1x6592, .f32⟩
  | .hbm, ⟨4, _⟩ => ⟨S1x2048, .f32⟩
  | .hbm, ⟨5, _⟩ => ⟨S1x96x2048, .f32⟩
  | .hbm, ⟨6, _⟩ => ⟨S1x2048, .f32⟩
  | .hbm, ⟨7, _⟩ => ⟨S1x96x2048, .f32⟩
  | .hbm, ⟨8, _⟩ => ⟨S1x256x2048, .f32⟩
  | .hbm, ⟨9, _⟩ => ⟨S1x2048, .f32⟩
  | .hbm, ⟨10, _⟩ => ⟨S1x2048, .f32⟩
  | .hbm, ⟨11, _⟩ => ⟨S1x32x64, .f32⟩
  | .hbm, ⟨12, _⟩ => ⟨S1x2048, .f32⟩
  | .hbm, ⟨13, _⟩ => ⟨S1x2048, .f32⟩
  | .hbm, ⟨14, _⟩ => ⟨S_, .f32⟩
  | .hbm, ⟨15, _⟩ => ⟨S4x1x6592, .f32⟩
  | .hbm, ⟨16, _⟩ => ⟨S16x1x6592, .f32⟩
  | .hbm, ⟨17, _⟩ => ⟨S20x1x6592, .f32⟩
  | .hbm, ⟨18, _⟩ => ⟨S_, .f32⟩
  | .hbm, ⟨19, _⟩ => ⟨S20x7x6656, .f32⟩
  | .hbm, ⟨20, _⟩ => ⟨S_, .f32⟩
  | .hbm, ⟨21, _⟩ => ⟨S20x1x64, .f32⟩
  | .hbm, ⟨22, _⟩ => ⟨S20x1x6656, .f32⟩
  | .hbm, ⟨23, _⟩ => ⟨S20x8x6656, .f32⟩
  | .hbm, ⟨24, _⟩ => ⟨S_, .f32⟩
  | .hbm, ⟨25, _⟩ => ⟨S4x16x64x128, .f32⟩
  | .hbm, ⟨26, _⟩ => ⟨S16x32x64x64, .f32⟩
  | .hbm, ⟨27, _⟩ => ⟨S16x16x2x64x64, .f32⟩
  | .hbm, ⟨28, _⟩ => ⟨S16x16x64x2x64, .f32⟩
  | .hbm, ⟨29, _⟩ => ⟨S16x16x64x128, .f32⟩
  | .hbm, ⟨30, _⟩ => ⟨S20x16x64x128, .f32⟩
  | .hbm, ⟨31, _⟩ => ⟨S6592, .f32⟩
  | .hbm, ⟨32, _⟩ => ⟨S1x6592, .f32⟩
  | .hbm, ⟨33, _⟩ => ⟨S_, .f32⟩
  | .hbm, ⟨34, _⟩ => ⟨S1x64, .f32⟩
  | .hbm, ⟨35, _⟩ => ⟨S1x6656, .f32⟩
  | .hbm, ⟨36, _⟩ => ⟨S2048, .f32⟩
  | .hbm, ⟨37, _⟩ => ⟨S1x2048, .f32⟩
  | .hbm, ⟨38, _⟩ => ⟨S96x2048, .f32⟩
  | .hbm, ⟨39, _⟩ => ⟨S_, .f32⟩
  | .hbm, ⟨40, _⟩ => ⟨S32x2048, .f32⟩
  | .hbm, ⟨41, _⟩ => ⟨S128x2048, .f32⟩
  | .hbm, ⟨42, _⟩ => ⟨S2048, .f32⟩
  | .hbm, ⟨43, _⟩ => ⟨S1x2048, .f32⟩
  | .hbm, ⟨44, _⟩ => ⟨S96x2048, .f32⟩
  | .hbm, ⟨45, _⟩ => ⟨S_, .f32⟩
  | .hbm, ⟨46, _⟩ => ⟨S32x2048, .f32⟩
  | .hbm, ⟨47, _⟩ => ⟨S128x2048, .f32⟩
  | .hbm, ⟨48, _⟩ => ⟨S256x2048, .f32⟩
  | .hbm, ⟨49, _⟩ => ⟨S2048, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S32x64, .f32⟩
  | .hbm, ⟨54, _⟩ => ⟨S1x2048, .f32⟩
  | .hbm, ⟨55, _⟩ => ⟨S2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S9216x2048, .bf16⟩
  | .hbm, ⟨60, _⟩ => ⟨S20x16x64x128, .f32⟩
  | .local _ .vmem, ⟨0, _⟩ => ⟨S64x6144, .f32⟩
  | .local _ .vmem, ⟨1, _⟩ => ⟨S64x6144, .f32⟩
  | .local _ .vmem, ⟨2, _⟩ => ⟨S64x512, .f32⟩
  | .local _ .vmem, ⟨3, _⟩ => ⟨S64x512, .f32⟩
  | .local _ .vmem, ⟨4, _⟩ => ⟨S1x8x6656, .f32⟩
  | .local _ .vmem, ⟨5, _⟩ => ⟨S1x8x6656, .f32⟩
  | .local _ .vmem, ⟨6, _⟩ => ⟨S1x16x64x128, .f32⟩
  | .local _ .vmem, ⟨7, _⟩ => ⟨S1x16x64x128, .f32⟩
  | .local _ .vmem, ⟨8, _⟩ => ⟨S1x6656, .f32⟩
  | .local _ .vmem, ⟨9, _⟩ => ⟨S1x2048, .f32⟩
  | .local _ .vmem, ⟨10, _⟩ => ⟨S128x2048, .f32⟩
  | .local _ .vmem, ⟨11, _⟩ => ⟨S1x2048, .f32⟩
  | .local _ .vmem, ⟨12, _⟩ => ⟨S128x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S64x2048, .bf16⟩
  | .local _ .vmem, ⟨20, _⟩ => ⟨S64x2048, .bf16⟩
  | .local _ .vmem, ⟨21, _⟩ => ⟨S1x16x64x128, .f32⟩
  | .local _ .vmem, ⟨22, _⟩ => ⟨S1x16x64x128, .f32⟩
  | .local _ .vmem, ⟨23, _⟩ => ⟨S72x6144, .f32⟩
  | .local _ .vmem, ⟨24, _⟩ => ⟨S72x512, .f32⟩
  | .local _ .vmem, ⟨25, _⟩ => ⟨S64x2048, .f32⟩
  | .local _ .vmem, ⟨26, _⟩ => ⟨S64x2048, .f32⟩
  | .local _ .vmem, ⟨27, _⟩ => ⟨S64x2048, .f32⟩
  | .local _ .vmem, ⟨28, _⟩ => ⟨S64x2048, .f32⟩
  | .local _ .vmem, ⟨29, _⟩ => ⟨S64x2048, .f32⟩
  | .local _ .vmem, ⟨30, _⟩ => ⟨S1024x256, .bf16⟩
  | .local _ .vmem, ⟨31, _⟩ => ⟨S1024x128, .f32⟩
  | .local _ .vmem, ⟨32, _⟩ => ⟨S1024x128, .f32⟩
  | .local _ .vmem, ⟨33, _⟩ => ⟨S16x256x128, .bf16⟩
  | _, _ => ⟨S9216x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38_0 : Ref sig .tc := ⟨.hbm, 59, rfl⟩
abbrev main_v38_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_scratch10 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![144], ![false]⟩

@[reducible] def k0_t1_loop : Scf.Loop 32 :=
  let c0_i32_492 : BitVec 32 := 0#32
  let c8_i32 : BitVec 32 := 8#32
  let v1290 : BitVec 32 := Scalar.addi c0_i32_492 c8_i32
  let c1_i32_493 : BitVec 32 := 1#32
  ⟨c0_i32_492, v1290, c1_i32_493⟩
def k0_mult1 (k0_t1 : Fin k0_t1_loop.trips) : BitVec 32 :=
  let c0_i32_492 : BitVec 32 := 0#32
  let c1_i32_493 : BitVec 32 := 1#32
  let arg29 : BitVec 32 := Scf.iv c0_i32_492 c1_i32_493 k0_t1
  let c8_i32_721 : BitVec 32 := 8#32
  let v1635 : BitVec 32 := Scalar.muli arg29 c8_i32_721
  v1635
def k0_off1 (k0_t1 : Fin k0_t1_loop.trips) : Fin 2 → Nat :=
  let c0_i32_492 : BitVec 32 := 0#32
  let c1_i32_493 : BitVec 32 := 1#32
  let arg29 : BitVec 32 := Scf.iv c0_i32_492 c1_i32_493 k0_t1
  let c8_i32_721 : BitVec 32 := 8#32
  let v1635 : BitVec 32 := Scalar.muli arg29 c8_i32_721
  let v1636 : BitVec 32 := v1635
  let v1637 : Index := Scalar.indexCast v1636
  let c0_722 : Index := 0#32
  ![v1637.toNat, 0]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32_4 : BitVec 32 := 128#32
  let v18 : BitVec 32 := Scalar.subi arg0 c128_i32_4
  let c1_i32_5 : BitVec 32 := 1#32
  let v19 : BitVec 32 := Scalar.divsi v18 c1_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v18 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v17 v36
  let c0_i32_12 : BitVec 32 := 0#32
  let c0_i32_13 : BitVec 32 := 0#32
  let c0_i32_14 : BitVec 32 := 0#32
  ![v37.toNat, c0_i32_12.toNat, c0_i32_13.toNat]

def cc0_transform_3 (i : grid0.Coords) : Fin 4 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32_4 : BitVec 32 := 128#32
  let v18 : BitVec 32 := Scalar.subi arg0 c128_i32_4
  let c1_i32_5 : BitVec 32 := 1#32
  let v19 : BitVec 32 := Scalar.divsi v18 c1_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v18 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v17 v36
  let c0_i32_12 : BitVec 32 := 0#32
  let c0_i32_13 : BitVec 32 := 0#32
  let c0_i32_14 : BitVec 32 := 0#32
  let c0_i32_15 : BitVec 32 := 0#32
  ![v37.toNat, c0_i32_12.toNat, c0_i32_13.toNat, c0_i32_14.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c128_i32_4 : BitVec 32 := 128#32
  let v18 : BitVec 32 := Scalar.subi arg0 c128_i32_4
  let c1_i32_5 : BitVec 32 := 1#32
  let v19 : BitVec 32 := Scalar.divsi v18 c1_i32_5
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi v18 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let c4_i32 : BitVec 32 := 4#32
  let v36 : BitVec 32 := Scalar.addi c4_i32 v35
  let v37 : BitVec 32 := Scalar.select v0 v17 v36
  let c0_i32_12 : BitVec 32 := 0#32
  let c0_i32_13 : BitVec 32 := 0#32
  let c0_i32_14 : BitVec 32 := 0#32
  let c0_i32_15 : BitVec 32 := 0#32
  ![v37.toNat, c0_i32_12.toNat, c0_i32_13.toNat, c0_i32_14.toNat]

abbrev stage0_0 : Fin 2 → Memref sig .tc .vmem S64x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x6656 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6656 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x16x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel2.lean ====
abbrev S9216x4096 : Shape := ⟨2, ![9216, 4096]⟩
abbrev S1x4096x12768 : Shape := ⟨3, ![1, 4096, 12768]⟩
abbrev S4096x12768 : Shape := ⟨2, ![4096, 12768]⟩
abbrev S12768x4096 : Shape := ⟨2, ![12768, 4096]⟩
abbrev S9216x12800 : Shape := ⟨2, ![9216, 12800]⟩
abbrev S1024x4096 : Shape := ⟨2, ![1024, 4096]⟩
abbrev S512x4096 : Shape := ⟨2, ![512, 4096]⟩
abbrev S128x4096 : Shape := ⟨2, ![128, 4096]⟩
abbrev S1024x512 : Shape := ⟨2, ![1024, 512]⟩
abbrev S640x4096 : Shape := ⟨2, ![640, 4096]⟩

abbrev nBuf : Space → Nat
  | .hbm => 6
  | .vmem => 9
  | .smem => 0
  | _ => 0

abbrev bufTy : (tb : Table) → Fin (tcTables nBuf tb) → BufTy
  | .hbm, ⟨0, _⟩ => ⟨S9216x4096, .f32⟩
  | .hbm, ⟨1, _⟩ => ⟨S1x4096x12768, .f32⟩
  | .hbm, ⟨2, _⟩ => ⟨S9216x4096, .bf16⟩
  | .hbm, ⟨3, _⟩ => ⟨S4096x12768, .f32⟩
  | .hbm, ⟨4, _⟩ => ⟨S12768x4096, .f32⟩
  | .hbm, ⟨5, _⟩ => ⟨S9216x12800, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S128x4096, .f32⟩
  | .local _ .vmem, ⟨5, _⟩ => ⟨S128x4096, .f32⟩
  | .local _ .vmem, ⟨6, _⟩ => ⟨S1024x512, .f32⟩
  | .local _ .vmem, ⟨7, _⟩ => ⟨S1024x512, .f32⟩
  | .local _ .vmem, ⟨8, _⟩ => ⟨S512x4096, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c99_i32 : BitVec 32 := 99#32
  let v2 : BitVec 32 := Scalar.minsi v1 c99_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S9216x4096 : Shape := ⟨2, ![9216, 4096]⟩
abbrev S1x4096x12768 : Shape := ⟨3, ![1, 4096, 12768]⟩
abbrev S4096x12768 : Shape := ⟨2, ![4096, 12768]⟩
abbrev S9216x12768 : Shape := ⟨2, ![9216, 12768]⟩
abbrev S9216x6144 : Shape := ⟨2, ![9216, 6144]⟩
abbrev S9216x6592 : Shape := ⟨2, ![9216, 6592]⟩
abbrev S9216x12736 : Shape := ⟨2, ![9216, 12736]⟩
abbrev S_ : Shape := ⟨0, ![]⟩
abbrev S9216x64 : Shape := ⟨2, ![9216, 64]⟩
abbrev S9216x12800 : Shape := ⟨2, ![9216, 12800]⟩

abbrev nBuf : Space → Nat
  | .hbm => 10
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S1x4096x12768, .f32⟩
  | .hbm, ⟨2, _⟩ => ⟨S4096x12768, .f32⟩
  | .hbm, ⟨3, _⟩ => ⟨S9216x12768, .f32⟩
  | .hbm, ⟨4, _⟩ => ⟨S9216x6144, .f32⟩
  | .hbm, ⟨5, _⟩ => ⟨S9216x6592, .f32⟩
  | .hbm, ⟨6, _⟩ => ⟨S9216x12736, .f32⟩
  | .hbm, ⟨7, _⟩ => ⟨S_, .f32⟩
  | .hbm, ⟨8, _⟩ => ⟨S9216x64, .f32⟩
  | .hbm, ⟨9, _⟩ => ⟨S9216x12800, .f32⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S9216x2048 : Shape := ⟨2, ![9216, 2048]⟩
abbrev S1x4096x4096 : Shape := ⟨3, ![1, 4096, 4096]⟩
abbrev S4x2048x4096 : Shape := ⟨3, ![4, 2048, 4096]⟩
abbrev S16x64x4096 : Shape := ⟨3, ![16, 64, 4096]⟩
abbrev S20x4096 : Shape := ⟨2, ![20, 4096]⟩
abbrev S4096x4096 : Shape := ⟨2, ![4096, 4096]⟩
abbrev S2048x4096 : Shape := ⟨2, ![2048, 4096]⟩
abbrev S8192x4096 : Shape := ⟨2, ![8192, 4096]⟩
abbrev S1024x4096 : Shape := ⟨2, ![1024, 4096]⟩
abbrev S9216x4096 : Shape := ⟨2, ![9216, 4096]⟩
abbrev S512x2048 : Shape := ⟨2, ![512, 2048]⟩
abbrev S2048x1024 : Shape := ⟨2, ![2048, 1024]⟩
abbrev S512x1024 : Shape := ⟨2, ![512, 1024]⟩
abbrev S20x1024 : Shape := ⟨2, ![20, 1024]⟩
abbrev S64x1024 : Shape := ⟨2, ![64, 1024]⟩
abbrev S1x1024 : Shape := ⟨2, ![1, 1024]⟩

abbrev nBuf : Space → Nat
  | .hbm => 15
  | .vmem => 16
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S1x4096x4096, .f32⟩
  | .hbm, ⟨3, _⟩ => ⟨S4x2048x4096, .f32⟩
  | .hbm, ⟨4, _⟩ => ⟨S16x64x4096, .f32⟩
  | .hbm, ⟨5, _⟩ => ⟨S20x4096, .f32⟩
  | .hbm, ⟨6, _⟩ => ⟨S4096x4096, .f32⟩
  | .hbm, ⟨7, _⟩ => ⟨S4096x4096, .bf16⟩
  | .hbm, ⟨8, _⟩ => ⟨S9216x2048, .bf16⟩
  | .hbm, ⟨9, _⟩ => ⟨S9216x2048, .bf16⟩
  | .hbm, ⟨10, _⟩ => ⟨S2048x4096, .bf16⟩
  | .hbm, ⟨11, _⟩ => ⟨S2048x4096, .bf16⟩
  | .hbm, ⟨12, _⟩ => ⟨S8192x4096, .f32⟩
  | .hbm, ⟨13, _⟩ => ⟨S1024x4096, .f32⟩
  | .hbm, ⟨14, _⟩ => ⟨S9216x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S20x1024, .f32⟩
  | .local _ .vmem, ⟨13, _⟩ => ⟨S20x1024, .f32⟩
  | .local _ .vmem, ⟨14, _⟩ => ⟨S512x1024, .f32⟩
  | .local _ .vmem, ⟨15, _⟩ => ⟨S512x1024, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![18, 4], ![false, false]⟩

def k0_cond1 (i : grid0.Coords) : BitVec 1 :=
  let arg0 : BitVec 32 := BitVec.ofNat 32 (i 0).val
  let c16_i32 : BitVec 32 := 16#32
  let v11 : BitVec 1 := Scalar.cmpi .slt arg0 c16_i32
  let v12 : BitVec 32 := Scalar.extui v11
  let c0_i32 : BitVec 32 := 0#32
  let v13 : BitVec 1 := Scalar.cmpi .ne v12 c0_i32
  v13

def k0_off1 (i : grid0.Coords) (c0_i32_10 : BitVec 32) : Fin 2 → Nat :=
  let arg0 : BitVec 32 := BitVec.ofNat 32 (i 0).val
  let c8_i32 : BitVec 32 := 8#32
  let v17 : BitVec 32 := Scalar.muli arg0 c8_i32
  let v18 : BitVec 32 := Scalar.addi v17 c0_i32_10
  let c128_i32 : BitVec 32 := 128#32
  let v19 : BitVec 1 := Scalar.cmpi .slt v18 c128_i32
  let c0_i32_11 : BitVec 32 := 0#32
  let v21 : BitVec 1 := Scalar.cmpi .sgt v18 c0_i32_11
  let v22 : BitVec 32 := Scalar.extui v21
  let c0_i32_12 : BitVec 32 := 0#32
  let v23 : BitVec 1 := Scalar.cmpi .slt v18 c0_i32_12
  let v24 : BitVec 32 := Scalar.extui v23
  let v25 : BitVec 32 := Scalar.subi v22 v24
  let c32_i32 : BitVec 32 := 32#32
  let c0_i32_13 : BitVec 32 := 0#32
  let v26 : BitVec 1 := Scalar.cmpi .sgt c32_i32 c0_i32_13
  let v27 : BitVec 32 := Scalar.extui v26
  let c0_i32_14 : BitVec 32 := 0#32
  let v28 : BitVec 1 := Scalar.cmpi .slt c32_i32 c0_i32_14
  let v29 : BitVec 32 := Scalar.extui v28
  let v30 : BitVec 32 := Scalar.subi v27 v29
  let v31 : BitVec 1 := Scalar.cmpi .ne v25 v30
  let v32 : BitVec 32 := Scalar.remsi v18 c32_i32
  let c0_i32_15 : BitVec 32 := 0#32
  let v33 : BitVec 1 := Scalar.cmpi .ne v32 c0_i32_15
  let v34 : BitVec 1 := Scalar.andi v31 v33
  let v20 : BitVec 32 := Scalar.divsi v18 c32_i32
  let c1_i32 : BitVec 32 := 1#32
  let v35 : BitVec 32 := Scalar.subi v20 c1_i32
  let v36 : BitVec 32 := Scalar.select v34 v35 v20
  let c4_i32 : BitVec 32 := 4#32
  let c128_i32_16 : BitVec 32 := 128#32
  let v37 : BitVec 32 := Scalar.subi v18 c128_i32_16
  let c0_i32_18 : BitVec 32 := 0#32
  let v39 : BitVec 1 := Scalar.cmpi .sgt v37 c0_i32_18
  let v40 : BitVec 32 := Scalar.extui v39
  let c0_i32_19 : BitVec 32 := 0#32
  let v41 : BitVec 1 := Scalar.cmpi .slt v37 c0_i32_19
  let v42 : BitVec 32 := Scalar.extui v41
  let v43 : BitVec 32 := Scalar.subi v40 v42
  let c1_i32_17 : BitVec 32 := 1#32
  let c0_i32_20 : BitVec 32 := 0#32
  let v44 : BitVec 1 := Scalar.cmpi .sgt c1_i32_17 c0_i32_20
  let v45 : BitVec 32 := Scalar.extui v44
  let c0_i32_21 : BitVec 32 := 0#32
  let v46 : BitVec 1 := Scalar.cmpi .slt c1_i32_17 c0_i32_21
  let v47 : BitVec 32 := Scalar.extui v46
  let v48 : BitVec 32 := Scalar.subi v45 v47
  let v49 : BitVec 1 := Scalar.cmpi .ne v43 v48
  let v50 : BitVec 32 := Scalar.remsi v37 c1_i32_17
  let c0_i32_22 : BitVec 32 := 0#32
  let v51 : BitVec 1 := Scalar.cmpi .ne v50 c0_i32_22
  let v52 : BitVec 1 := Scalar.andi v49 v51
  let v38 : BitVec 32 := Scalar.divsi v37 c1_i32_17
  let c1_i32_23 : BitVec 32 := 1#32
  let v53 : BitVec 32 := Scalar.subi v38 c1_i32_23
  let v54 : BitVec 32 := Scalar.select v52 v53 v38
  let v55 : BitVec 32 := Scalar.addi c4_i32 v54
  let v56 : BitVec 32 := Scalar.select v19 v36 v55
  let v59 : Index := Scalar.indexCast v56
  let c0_26 : Index := 0#32
  ![v59.toNat, 0]
def k0_cond2 (i : grid0.Coords) : BitVec 1 :=
  let arg0 : BitVec 32 := BitVec.ofNat 32 (i 0).val
  let c16_i32_8 : BitVec 32 := 16#32
  let v14 : BitVec 1 := Scalar.cmpi .sge arg0 c16_i32_8
  let v15 : BitVec 32 := Scalar.extui v14
  let c0_i32_9 : BitVec 32 := 0#32
  let v16 : BitVec 1 := Scalar.cmpi .ne v15 c0_i32_9
  v16

def k0_off2 (i : grid0.Coords) (c0_i32_10 : BitVec 32) : Fin 2 → Nat :=
  let arg0 : BitVec 32 := BitVec.ofNat 32 (i 0).val
  let c8_i32 : BitVec 32 := 8#32
  let v17 : BitVec 32 := Scalar.muli arg0 c8_i32
  let v18 : BitVec 32 := Scalar.addi v17 c0_i32_10
  let c128_i32 : BitVec 32 := 128#32
  let v19 : BitVec 1 := Scalar.cmpi .slt v18 c128_i32
  let c0_i32_11 : BitVec 32 := 0#32
  let v21 : BitVec 1 := Scalar.cmpi .sgt v18 c0_i32_11
  let v22 : BitVec 32 := Scalar.extui v21
  let c0_i32_12 : BitVec 32 := 0#32
  let v23 : BitVec 1 := Scalar.cmpi .slt v18 c0_i32_12
  let v24 : BitVec 32 := Scalar.extui v23
  let v25 : BitVec 32 := Scalar.subi v22 v24
  let c32_i32 : BitVec 32 := 32#32
  let c0_i32_13 : BitVec 32 := 0#32
  let v26 : BitVec 1 := Scalar.cmpi .sgt c32_i32 c0_i32_13
  let v27 : BitVec 32 := Scalar.extui v26
  let c0_i32_14 : BitVec 32 := 0#32
  let v28 : BitVec 1 := Scalar.cmpi .slt c32_i32 c0_i32_14
  let v29 : BitVec 32 := Scalar.extui v28
  let v30 : BitVec 32 := Scalar.subi v27 v29
  let v31 : BitVec 1 := Scalar.cmpi .ne v25 v30
  let v32 : BitVec 32 := Scalar.remsi v18 c32_i32
  let c0_i32_15 : BitVec 32 := 0#32
  let v33 : BitVec 1 := Scalar.cmpi .ne v32 c0_i32_15
  let v34 : BitVec 1 := Scalar.andi v31 v33
  let v20 : BitVec 32 := Scalar.divsi v18 c32_i32
  let c1_i32 : BitVec 32 := 1#32
  let v35 : BitVec 32 := Scalar.subi v20 c1_i32
  let v36 : BitVec 32 := Scalar.select v34 v35 v20
  let c4_i32 : BitVec 32 := 4#32
  let c128_i32_16 : BitVec 32 := 128#32
  let v37 : BitVec 32 := Scalar.subi v18 c128_i32_16
  let c0_i32_18 : BitVec 32 := 0#32
  let v39 : BitVec 1 := Scalar.cmpi .sgt v37 c0_i32_18
  let v40 : BitVec 32 := Scalar.extui v39
  let c0_i32_19 : BitVec 32 := 0#32
  let v41 : BitVec 1 := Scalar.cmpi .slt v37 c0_i32_19
  let v42 : BitVec 32 := Scalar.extui v41
  let v43 : BitVec 32 := Scalar.subi v40 v42
  let c1_i32_17 : BitVec 32 := 1#32
  let c0_i32_20 : BitVec 32 := 0#32
  let v44 : BitVec 1 := Scalar.cmpi .sgt c1_i32_17 c0_i32_20
  let v45 : BitVec 32 := Scalar.extui v44
  let c0_i32_21 : BitVec 32 := 0#32
  let v46 : BitVec 1 := Scalar.cmpi .slt c1_i32_17 c0_i32_21
  let v47 : BitVec 32 := Scalar.extui v46
  let v48 : BitVec 32 := Scalar.subi v45 v47
  let v49 : BitVec 1 := Scalar.cmpi .ne v43 v48
  let v50 : BitVec 32 := Scalar.remsi v37 c1_i32_17
  let c0_i32_22 : BitVec 32 := 0#32
  let v51 : BitVec 1 := Scalar.cmpi .ne v50 c0_i32_22
  let v52 : BitVec 1 := Scalar.andi v49 v51
  let v38 : BitVec 32 := Scalar.divsi v37 c1_i32_17
  let c1_i32_23 : BitVec 32 := 1#32
  let v53 : BitVec 32 := Scalar.subi v38 c1_i32_23
  let v54 : BitVec 32 := Scalar.select v52 v53 v38
  let v55 : BitVec 32 := Scalar.addi c4_i32 v54
  let v56 : BitVec 32 := Scalar.select v19 v36 v55
  let v59 : Index := Scalar.indexCast v56
  let c0_26 : Index := 0#32
  ![v59.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c16_i32 : BitVec 32 := 16#32
  let v1 : BitVec 1 := Scalar.cmpi .slt arg0 c16_i32
  let c0_i32 : BitVec 32 := 0#32
  let v2 : BitVec 32 := Scalar.select v1 arg1 c0_i32
  let c0_i32_0 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c16_i32_0 : BitVec 32 := 16#32
  let v2 : BitVec 1 := Scalar.cmpi .sge arg0 c16_i32_0
  let c0_i32_1 : BitVec 32 := 0#32
  let v3 : BitVec 32 := Scalar.select v2 arg1 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S20x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S9216x2048 : Shape := ⟨2, ![9216, 2048]⟩
abbrev S1x4096x4096 : Shape := ⟨3, ![1, 4096, 4096]⟩
abbrev S4x2048x4096 : Shape := ⟨3, ![4, 2048, 4096]⟩
abbrev S16x64x4096 : Shape := ⟨3, ![16, 64, 4096]⟩
abbrev S20x4096 : Shape := ⟨2, ![20, 4096]⟩
abbrev S9216x4096 : Shape := ⟨2, ![9216, 4096]⟩
abbrev S4096x4096 : Shape := ⟨2, ![4096, 4096]⟩
abbrev S4x4096 : Shape := ⟨2, ![4, 4096]⟩
abbrev S4x1x4096 : Shape := ⟨3, ![4, 1, 4096]⟩
abbrev S8192x4096 : Shape := ⟨2, ![8192, 4096]⟩
abbrev S16x4096 : Shape := ⟨2, ![16, 4096]⟩
abbrev S16x1x4096 : Shape := ⟨3, ![16, 1, 4096]⟩
abbrev S1024x4096 : Shape := ⟨2, ![1024, 4096]⟩

abbrev nBuf : Space → Nat
  | .hbm => 26
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .f32⟩
  | .hbm, ⟨2, _⟩ => ⟨S1x4096x4096, .f32⟩
  | .hbm, ⟨3, _⟩ => ⟨S4x2048x4096, .f32⟩
  | .hbm, ⟨4, _⟩ => ⟨S16x64x4096, .f32⟩
  | .hbm, ⟨5, _⟩ => ⟨S20x4096, .f32⟩
  | .hbm, ⟨6, _⟩ => ⟨S9216x4096, .f32⟩
  | .hbm, ⟨7, _⟩ => ⟨S4096x4096, .f32⟩
  | .hbm, ⟨8, _⟩ => ⟨S9216x4096, .f32⟩
  | .hbm, ⟨9, _⟩ => ⟨S4x4096, .f32⟩
  | .hbm, ⟨10, _⟩ => ⟨S4x1x4096, .f32⟩
  | .hbm, ⟨11, _⟩ => ⟨S8192x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S16x4096, .f32⟩
  | .hbm, ⟨17, _⟩ => ⟨S16x1x4096, .f32⟩
  | .hbm, ⟨18, _⟩ => ⟨S1024x4096, .f32⟩
  | .hbm, ⟨19, _⟩ => ⟨S16x64x4096, .f32⟩
  | .hbm, ⟨20, _⟩ => ⟨S16x64x4096, .f32⟩
  | .hbm, ⟨21, _⟩ => ⟨S16x64x4096, .f32⟩
  | .hbm, ⟨22, _⟩ => ⟨S16x64x4096, .f32⟩
  | .hbm, ⟨23, _⟩ => ⟨S8192x4096, .f32⟩
  | .hbm, ⟨24, _⟩ => ⟨S1024x4096, .f32⟩
  | .hbm, ⟨25, _⟩ => ⟨S9216x4096, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Hand.Trip.lean ====
/- One trip of the scan loop of the recurrence kernel: eight steps of the state recurrence over sixteen pairs of heads,
   run once over a symbolic trip. -/
module

public import proofs.«01_k».proof.Proof.Gen.KernelIdeal.Skeleton
public import proofs.«01_k».proof.Proof.Gen.KernelIdeal.Loops
public import Idealize.ShloMosaic.Lib.Pipeline.FrameBody
public import Idealize.ShloMosaic.Lib.WholeRead
public import Idealize.ShloMosaic.Lib.Tactic
public import Idealize.ShloMosaic.Lib.Ring
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD)
  (i : grid0.Coords) (arg1 : Memref sig .tc .vmem S64x6144 .f32) (harg1 : arg1.IsWhole) (arg2 : Memref sig .tc .vmem S64x512 .f32) (harg2 : arg2.IsWhole) (arg3 : Memref sig .tc .vmem S1x8x6656 .f32)
  (harg3 : arg3.IsWhole) (arg4 : Memref sig .tc .vmem S1x16x64x128 .f32) (harg4 : arg4.IsWhole) (arg5 : Memref sig .tc .vmem S1x6656 .f32) (harg5 : arg5.IsWhole) (arg6 : Memref sig .tc .vmem S1x2048 .f32)
  (harg6 : arg6.IsWhole) (arg7 : Memref sig .tc .vmem S128x2048 .f32) (harg7 : arg7.IsWhole) (arg8 : Memref sig .tc .vmem S1x2048 .f32) (harg8 : arg8.IsWhole) (arg9 : Memref sig .tc .vmem S128x2048 .f32)
  (harg9 : arg9.IsWhole) (arg10 : Memref sig .tc .vmem S256x2048 .f32) (harg10 : arg10.IsWhole) (arg11 : Memref sig .tc .vmem S1x2048 .f32) (harg11 : arg11.IsWhole) (arg12 : Memref sig .tc .vmem S1x2048 .f32)
  (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32)
  (harg15 : arg15.IsWhole) (arg16 : Memref sig .tc .vmem S64x2048 .bf16) (harg16 : arg16.IsWhole) (arg17 : Memref sig .tc .vmem S1x16x64x128 .f32) (harg17 : arg17.IsWhole) (arg18 : Memref sig .tc .vmem S72x6144 .f32)
  (harg18 : arg18.IsWhole) (arg19 : Memref sig .tc .vmem S72x512 .f32) (harg19 : arg19.IsWhole) (arg20 : Memref sig .tc .vmem S64x2048 .f32) (harg20 : arg20.IsWhole) (arg21 : Memref sig .tc .vmem S64x2048 .f32)
  (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32)
  (harg24 : arg24.IsWhole) (arg25 : Memref sig .tc .vmem S1024x256 .bf16) (harg25 : arg25.IsWhole) (arg26 : Memref sig .tc .vmem S1024x128 .f32) (harg26 : arg26.IsWhole) (arg27 : Memref sig .tc .vmem S1024x128 .f32)
  (harg27 : arg27.IsWhole) (arg28 : Memref sig .tc .vmem S16x256x128 .bf16) (harg28 : arg28.IsWhole) (v118 : FVec F S256x256 .bf16) (v1161 : IVec S64x128 32) (v1163 : IVec S256x256 32)
  (v1244 : IVec S256x256 1) (v1260 : IVec S256x256 32) (c128_i32_482 : BitVec 32) (v1262 : IVec S256x256 32) (v1276 : IVec S256x256 1)

/-- What a trip of the scan holds: the rows of the decays, of the two factors of the rank-one term and of the keys, the
    split values, the state's block at `g17` and the kept products at `g26`. -/
abbrev TripRes (g20 : Buf (Elt F) (arg20.view.loc (c : Thread nD τ))) (g21 : Buf (Elt F) (arg21.view.loc (c : Thread nD τ))) (g22 : Buf (Elt F) (arg22.view.loc (c : Thread nD τ))) (g23 : Buf (Elt F) (arg23.view.loc (c : Thread nD τ)))
    (g25 : Buf (Elt F) (arg25.view.loc (c : Thread nD τ)))
    (g17 : Buf (Elt F) (arg17.view.loc (c : Thread nD τ))) (g26 : Buf (Elt F) (arg26.view.loc (c : Thread nD τ))) : sProp 𝕄 :=
  iprop((arg20.view.loc (c : Thread nD τ) ↦[arg20.view.set]{fullShare} g20)
    ∗ (arg21.view.loc (c : Thread nD τ) ↦[arg21.view.set]{fullShare} g21)
    ∗ (arg22.view.loc (c : Thread nD τ) ↦[arg22.view.set]{fullShare} g22)
    ∗ (arg23.view.loc (c : Thread nD τ) ↦[arg23.view.set]{fullShare} g23)
    ∗ (arg25.view.loc (c : Thread nD τ) ↦[arg25.view.set]{fullShare} g25)
    ∗ (arg17.view.loc (c : Thread nD τ) ↦[arg17.view.set]{fullShare} g17)
    ∗ (arg26.view.loc (c : Thread nD τ) ↦[arg26.view.set]{fullShare} g26))

set_option backward.proofsInPublic true in
set_option maxHeartbeats 8000000 in
/-- One trip at a symbolic `k`: from the state's block at `g17` and the kept products at `g26` to what the trip leaves in
    the two, found by the run. -/
def trip (k : Fin k0_t1_loop.trips) (g20 : Buf (Elt F) (arg20.view.loc (c : Thread nD τ))) (g21 : Buf (Elt F) (arg21.view.loc (c : Thread nD τ))) (g22 : Buf (Elt F) (arg22.view.loc (c : Thread nD τ))) (g23 : Buf (Elt F) (arg23.view.loc (c : Thread nD τ)))
    (g25 : Buf (Elt F) (arg25.view.loc (c : Thread nD τ)))
    (g17 : Buf (Elt F) (arg17.view.loc (c : Thread nD τ))) (g26 : Buf (Elt F) (arg26.view.loc (c : Thread nD τ))) :
    Σ' (h17 : Buf (Elt F) (arg17.view.loc (c : Thread nD τ))), { h26 : Buf (Elt F) (arg26.view.loc (c : Thread nD τ)) //
      TripRes c arg17 arg20 arg21 arg22 arg23 arg25 arg26 g20 g21 g22 g23 g25 g17 g26
        ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k ())
          (fun _ => TripRes c arg17 arg20 arg21 arg22 arg23 arg25 arg26 g20 g21 g22 g23 g25 h17 h26) } := by
  refine ⟨?_, ?_, ?run⟩
  case run =>
    unfold TripRes
    iintro ⟨H20, H21, H22, H23, H25, H17, H26⟩
    sl_unfold [k0_t1_body]
    sl_exec
    sl_step
    isplitl [H20]; · iexact H20
    isplitl [H21]; · iexact H21
    isplitl [H22]; · iexact H22
    isplitl [H23]; · iexact H23
    isplitl [H25]; · iexact H25
    isplitl [H17]; · iexact H17
    iexact H26

/-- What one trip leaves in the state's block and the kept products, found them at `b`. -/
def tripOut (k : Fin k0_t1_loop.trips) (g20 : Buf (Elt F) (arg20.view.loc (c : Thread nD τ))) (g21 : Buf (Elt F) (arg21.view.loc (c : Thread nD τ))) (g22 : Buf (Elt F) (arg22.view.loc (c : Thread nD τ))) (g23 : Buf (Elt F) (arg23.view.loc (c : Thread nD τ)))
    (g25 : Buf (Elt F) (arg25.view.loc (c : Thread nD τ))) (b : Buf (Elt F) (arg17.view.loc (c : Thread nD τ)) × Buf (Elt F) (arg26.view.loc (c : Thread nD τ))) :
    Buf (Elt F) (arg17.view.loc (c : Thread nD τ)) × Buf (Elt F) (arg26.view.loc (c : Thread nD τ)) :=
  ((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k g20 g21 g22 g23 g25 b.1 b.2).1, (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k g20 g21 g22 g23 g25 b.1 b.2).2.1)

theorem tripOut_spec (k : Fin k0_t1_loop.trips) (g20 : Buf (Elt F) (arg20.view.loc (c : Thread nD τ))) (g21 : Buf (Elt F) (arg21.view.loc (c : Thread nD τ))) (g22 : Buf (Elt F) (arg22.view.loc (c : Thread nD τ))) (g23 : Buf (Elt F) (arg23.view.loc (c : Thread nD τ)))
    (g25 : Buf (Elt F) (arg25.view.loc (c : Thread nD τ))) (b : Buf (Elt F) (arg17.view.loc (c : Thread nD τ)) × Buf (Elt F) (arg26.view.loc (c : Thread nD τ))) :
    TripRes c arg17 arg20 arg21 arg22 arg23 arg25 arg26 g20 g21 g22 g23 g25 b.1 b.2
        ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k ())
          (fun _ => TripRes c arg17 arg20 arg21 arg22 arg23 arg25 arg26 g20 g21 g22 g23 g25 (tripOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k g20 g21 g22 g23 g25 b).1 (tripOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k g20 g21 g22 g23 g25 b).2) := by
  unfold tripOut
  generalize trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k g20 g21 g22 g23 g25 b.1 b.2 = o
  exact o.2.2

/-- What the first `n` trips leave in the state's block and the kept products: one trip after the other. -/
def scan (g20 : Buf (Elt F) (arg20.view.loc (c : Thread nD τ))) (g21 : Buf (Elt F) (arg21.view.loc (c : Thread nD τ))) (g22 : Buf (Elt F) (arg22.view.loc (c : Thread nD τ))) (g23 : Buf (Elt F) (arg23.view.loc (c : Thread nD τ)))
    (g25 : Buf (Elt F) (arg25.view.loc (c : Thread nD τ))) (b : Buf (Elt F) (arg17.view.loc (c : Thread nD τ)) × Buf (Elt F) (arg26.view.loc (c : Thread nD τ))) :
    ℕ → Buf (Elt F) (arg17.view.loc (c : Thread nD τ)) × Buf (Elt F) (arg26.view.loc (c : Thread nD τ))
  | 0 => b
  | n + 1 =>
    if h : n < k0_t1_loop.trips then
      tripOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 ⟨n, h⟩ g20 g21 g22 g23 g25 (scan g20 g21 g22 g23 g25 b n)
    else scan g20 g21 g22 g23 g25 b n

theorem scan_succ (g20 : Buf (Elt F) (arg20.view.loc (c : Thread nD τ))) (g21 : Buf (Elt F) (arg21.view.loc (c : Thread nD τ))) (g22 : Buf (Elt F) (arg22.view.loc (c : Thread nD τ))) (g23 : Buf (Elt F) (arg23.view.loc (c : Thread nD τ)))
    (g25 : Buf (Elt F) (arg25.view.loc (c : Thread nD τ))) (b : Buf (Elt F) (arg17.view.loc (c : Thread nD τ)) × Buf (Elt F) (arg26.view.loc (c : Thread nD τ))) (k : Fin k0_t1_loop.trips) :
    scan c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 g20 g21 g22 g23 g25 b (k.val + 1)
      = tripOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k g20 g21 g22 g23 g25 (scan c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 g20 g21 g22 g23 g25 b k.val) := by
  rw [scan, dif_pos k.isLt]

set_option warn.classDefReducibility false in
/-- The loop's invariant: before trip `n` the state's block and the kept products are what `n` trips leave; the arrays the
    trip reads are as the loop found them. -/
@[sl_loop] def loopInv_k0_t1 (g20 : Buf (Elt F) (arg20.view.loc (c : Thread nD τ))) (g21 : Buf (Elt F) (arg21.view.loc (c : Thread nD τ))) (g22 : Buf (Elt F) (arg22.view.loc (c : Thread nD τ))) (g23 : Buf (Elt F) (arg23.view.loc (c : Thread nD τ)))
    (g25 : Buf (Elt F) (arg25.view.loc (c : Thread nD τ))) (g17 : Buf (Elt F) (arg17.view.loc (c : Thread nD τ))) (g26 : Buf (Elt F) (arg26.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 where
  inv n _ := TripRes c arg17 arg20 arg21 arg22 arg23 arg25 arg26 g20 g21 g22 g23 g25
    (scan c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 g20 g21 g22 g23 g25 (g17, g26) n).1
    (scan c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 g20 g21 g22 g23 g25 (g17, g26) n).2
  step k _ := by
    rw [scan_succ]
    iintro H
    iapply (wp_wand_r Idealize.ShloMosaic.frame (wpE (defs₀ (F := F)) Variants.none (c : Thread nD τ) none) Set.univ)
    isplitl [H]
    · iapply (tripOut_spec c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v118 v1161 v1163 v1244 v1260 c128_i32_482 v1262 v1276 k g20 g21 g22 g23 g25 _); iexact H
    · iintro %_ H'
      iexact H'

end Trip

end Cert.KernelIdeal.Hand

end
-- ==== Proof.Hand.Carry.lean ====
/- How a chunk's body begins: the first chunk of a sequence takes the carried rows and the state from the caller's arrays, a
   later one finds them where the chunk before left them. -/
module

public import proofs.«01_k».proof.Proof.Hand.Trip
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first chunk of its sequence (the printed comparison, from the grid coordinate). -/
abbrev isFirst (i : grid0.Coords) : Prop := (Scalar.cmpi .ne (Scalar.extui (Scalar.select (Scalar.cmpi .slt (BitVec.ofNat 32 (i 0).val) 128#32) (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32) (Scalar.cmpi .eq (Scalar.select (Scalar.andi (Scalar.xori (Scalar.cmpi .slt (Scalar.remsi (Scalar.subi (BitVec.ofNat 32 (i 0).val) 128#32) (Scalar.select (Scalar.cmpi .eq 1#32 0#32) 1#32 1#32)) 0#32) (Scalar.cmpi .slt (Scalar.select (Scalar.cmpi .eq 1#32 0#32) 1#32 1#32) 0#32)) (Scalar.cmpi .ne (Scalar.remsi (Scalar.subi (BitVec.ofNat 32 (i 0).val) 128#32) (Scalar.select (Scalar.cmpi .eq 1#32 0#32) 1#32 1#32)) 0#32)) (Scalar.addi (Scalar.remsi (Scalar.subi (BitVec.ofNat 32 (i 0).val) 128#32) (Scalar.select (Scalar.cmpi .eq 1#32 0#32) 1#32 1#32)) (Scalar.select (Scalar.cmpi .eq 1#32 0#32) 1#32 1#32)) (Scalar.remsi (Scalar.subi (BitVec.ofNat 32 (i 0).val) 128#32) (Scalar.select (Scalar.cmpi .eq 1#32 0#32) 1#32 1#32))) 0#32))) 0#32) = 1#1

/-- The prompt's sequences begin at every thirty-second point below 128; each point from 128 on is a sequence of its own. -/
theorem isFirst_iff : ∀ t : Fin cfg0.N, isFirst (grid0.coords t) ↔ (t.val % 32 = 0 ∨ 128 ≤ t.val) :=
  (by decide +kernel : ∀ t : Fin grid0.N, isFirst (grid0.coords t) ↔ (t.val % 32 = 0 ∨ 128 ≤ t.val))

/-- The state the chunk starts from. -/
def P17 (i : grid0.Coords) (x3 : Vec F S1x16x64x128 .f32) (s : Vec F S1x16x64x128 .f32) : Vec F S1x16x64x128 .f32 :=
  if isFirst i then k0_pay752 x3 else s

/-- The rows of the wide activations the chunk works on: eight carried rows, the last of which is the row before the
    chunk, then the chunk's own. -/
def P18 (i : grid0.Coords) (x0 : Vec F S64x6144 .f32) (x2 : Vec F S1x8x6656 .f32) (s : Vec F S72x6144 .f32) : Vec F S72x6144 .f32 :=
  View.canon (Val := Elt F) [⟨Rect.unit (s := S72x6144) ![8, 0] S64x6144.size inb_S72x6144_S64x6144_8_0, k0_pay753 x0⟩,
    ⟨Rect.unit (s := S72x6144) ![0, 0] S8x6144.size inb_S72x6144_S8x6144_0_0,
      if isFirst i then k0_pay750 (View.ld x2 (Rect.unit (s := S1x8x6656) ![0, 0, 0] S1x8x6144.size inb_S1x8x6656_S1x8x6144_0_0_0))
      else View.ld s (Rect.unit (s := S72x6144) ![0, 0] S8x6144.size inb_S72x6144_S8x6144_0_0)⟩]

/-- The same for the narrow activations. -/
def P19 (i : grid0.Coords) (x1 : Vec F S64x512 .f32) (x2 : Vec F S1x8x6656 .f32) (s : Vec F S72x512 .f32) : Vec F S72x512 .f32 :=
  View.canon (Val := Elt F) [⟨Rect.unit (s := S72x512) ![8, 0] S64x512.size inb_S72x512_S64x512_8_0, k0_pay754 x1⟩,
    ⟨Rect.unit (s := S72x512) ![0, 0] S8x512.size inb_S72x512_S8x512_0_0,
      if isFirst i then k0_pay751 (View.ld x2 (Rect.unit (s := S1x8x6656) ![0, 0, 6144] S1x8x512.size inb_S1x8x6656_S1x8x512_0_0_6144))
      else View.ld s (Rect.unit (s := S72x512) ![0, 0] S8x512.size inb_S72x512_S8x512_0_0)⟩]

theorem P17_first {i : grid0.Coords} (h : isFirst i) (x3 s s' : Vec F S1x16x64x128 .f32) : P17 i x3 s = P17 i x3 s' := by
  unfold P17; rw [if_pos h, if_pos h]

theorem P18_first {i : grid0.Coords} (h : isFirst i) (x0 : Vec F S64x6144 .f32) (x2) (s s' : Vec F S72x6144 .f32) :
    P18 i x0 x2 s = P18 i x0 x2 s' := by
  unfold P18; rw [if_pos h, if_pos h]

theorem P19_first {i : grid0.Coords} (h : isFirst i) (x1 : Vec F S64x512 .f32) (x2) (s s' : Vec F S72x512 .f32) :
    P19 i x1 x2 s = P19 i x1 x2 s' := by
  unfold P19; rw [if_pos h, if_pos h]

section Rows
variable {d : Fin 2 → ℕ} {Val : EltTy → Type} [∀ e, Nonempty (Val e)] {κ : Kind} {sp : Space}

/-- A buffer of 72 rows whose last 64 rows are stored holds those rows and, above them, the eight it had. -/
theorem rows_kept (m : Memref sig κ sp ⟨2, d⟩ .f32) (h : m.IsWhole) (s : (⟨2, d⟩ : Shape).Idx → Val .f32)
    {o8 s8 o0 s0 : Fin 2 → ℕ} (i8 : ∀ a : Fin 2, o8 a + s8 a ≤ d a) (i0 : ∀ a : Fin 2, o0 a + s0 a ≤ d a)
    (w : (Rect.unit (s := ⟨2, d⟩) o8 s8 i8).shape.Idx → Val .f32)
    (ho8 : o8 = ![8, 0]) (ho0 : o0 = ![0, 0]) (h8 : s8 0 = 64) (h0 : s0 0 = 8) (h81 : s8 1 = d 1) (h01 : s0 1 = d 1)
    (hcov : ∀ (u : (Rect.unit (s := ⟨2, d⟩) o0 s0 i0).shape.Idx → Val .f32) (y : (⟨2, d⟩ : Shape).Idx),
      ∃ p ∈ ([⟨Rect.unit (s := ⟨2, d⟩) o8 s8 i8, w⟩, ⟨Rect.unit (s := ⟨2, d⟩) o0 s0 i0, u⟩] : List (View.Piece Val ⟨2, d⟩ .f32)),
        y ∈ p.1.set) :
    m.view.read Val (m.view.writes Val (h.unread s) [⟨Rect.unit (s := ⟨2, d⟩) o8 s8 i8, w⟩])
      = View.canon [⟨Rect.unit (s := ⟨2, d⟩) o8 s8 i8, w⟩,
        ⟨Rect.unit (s := ⟨2, d⟩) o0 s0 i0, View.ld s (Rect.unit (s := ⟨2, d⟩) o0 s0 i0)⟩] := by
  rw [← View.read_writes_eq_canon m.view (h.unread s) _ (hcov _)]
  funext y
  rw [View.read_writes_cons_rows m.view _ i8 w _ y ho8 h8 h81, View.read_writes_cons_rows m.view _ i8 w _ y ho8 h8 h81]
  split_ifs with hy
  · rfl
  · rw [View.read_writes_cons_rows m.view _ i0 _ _ y ho0 h0 h01]
    split_ifs with hz
    · rw [View.writes_nil, h.read_unread]
      subst ho0
      show s y = s _
      refine congrArg s (funext fun a => Fin.ext ?_)
      show (y a).val = ![0, 0] a + 1 * (Rect.unitLocal (s := ⟨2, d⟩) (off := ![0, 0]) (size := s0) y _ a).val
      rw [Rect.unitLocal_val]
      fin_cases a <;> simp
    · rfl

end Rows

theorem ld_full {s : Shape} {e : EltTy} {off : Fin s.rank → ℕ} (inb : ∀ a, off a + s.size a ≤ s.size a) (x : Vec F s e) :
    View.ld (Val := Elt F) x (Rect.unit (s := s) off s.size inb) = x := by
  funext y
  show x _ = x y
  congr 1
  funext a
  apply Fin.ext
  have := inb a
  show off a + 1 * (y a).val = (y a).val
  omega

/-- A buffer stored whole holds what was stored. -/
theorem stored_whole {s : Shape} {e : EltTy} {κ : Kind} {sp : Space} (m : Memref sig κ sp s e) (h : m.IsWhole) (f : m.view.ty.Contents (Elt F))
    {off : Fin s.rank → ℕ} (inb : ∀ a, off a + s.size a ≤ s.size a) (w : Vec F s e) :
    m.view.writes (Elt F) f [⟨Rect.unit (s := s) off s.size inb, w⟩] = h.unread w := by
  apply h.eq_unread
  funext y
  exact View.read_writes_cons_unit_of_mem (off' := off) m.view f inb w [] y y rfl (fun a => by have := inb a; omega)

/-- The narrow rows once the carried eight are taken: over what was there. -/
def G19 (i : grid0.Coords) (arg19 : Memref sig .tc .vmem S72x512 .f32) (harg19 : arg19.IsWhole) (x2 : Vec F S1x8x6656 .f32) (s : Vec F S72x512 .f32) :
    arg19.view.ty.Contents (Elt F) :=
  if isFirst i then
    arg19.view.writes (Elt F) (harg19.unread s) [⟨Rect.unit (s := S72x512) ![0, 0] S8x512.size inb_S72x512_S8x512_0_0,
      k0_pay751 (View.ld x2 (Rect.unit (s := S1x8x6656) ![0, 0, 6144] S1x8x512.size inb_S1x8x6656_S1x8x512_0_0_6144))⟩]
  else harg19.unread s

/-- Once the chunk's narrow rows are stored too, they are `P19`. -/
theorem G19_stored (i : grid0.Coords) (arg19 : Memref sig .tc .vmem S72x512 .f32) (harg19 : arg19.IsWhole) (x1 : Vec F S64x512 .f32)
    (x2 : Vec F S1x8x6656 .f32) (s : Vec F S72x512 .f32) :
    arg19.view.writes (Elt F) (G19 i arg19 harg19 x2 s)
      [⟨Rect.unit (s := S72x512) ![8, 0] S64x512.size inb_S72x512_S64x512_8_0, k0_pay754 x1⟩]
      = harg19.unread (P19 i x1 x2 s) := by
  apply harg19.eq_unread
  unfold G19 P19
  split_ifs with h
  · rw [← View.writes_append, List.singleton_append]
    exact View.read_writes_eq_canon arg19.view (harg19.unread s) _ (View.cover_of_tiledBy _ ![8, 512] (by sl_kernel_rfl))
  · exact rows_kept arg19 harg19 s inb_S72x512_S64x512_8_0 inb_S72x512_S8x512_0_0 (k0_pay754 x1) rfl rfl rfl rfl rfl rfl fun u => View.cover_of_tiledBy _ ![8, 512] (by sl_kernel_rfl)

theorem pair_congr {α β : Type} {a a' : α} {b b' : β} (h : a = a') (h' : b = b') :
    (⟨a, b⟩ : Σ' (_ : α), β) = ⟨a', b'⟩ := by subst h; subst h'; rfl

/-- A buffer held at one contents is held at equal contents. -/
theorem hold_congr {ℓ : Loc nD τ sig} {S} {f g : Buf (Elt F) ℓ} (h : f = g) :
    ((ℓ ↦[S]{fullShare} f) : sProp 𝕄) ⊢ (ℓ ↦[S]{fullShare} g) := by subst h; exact Idealize.SL.BI.Entails.refl _

end Cert.KernelIdeal.Hand

end
-- ==== Proof.Hand.Part.lean ====
/- The first part of a chunk's body, run: what it loads, and what the carried buffers hold after it. -/
module

public import proofs.«01_k».proof.Proof.Hand.Carry
import proofs.«01_k».proof.Proof.Hand.Trip
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Part
variable (c : Dev nD)
  (i : grid0.Coords) (arg1 : Memref sig .tc .vmem S64x6144 .f32) (harg1 : arg1.IsWhole) (arg2 : Memref sig .tc .vmem S64x512 .f32) (harg2 : arg2.IsWhole) (arg3 : Memref sig .tc .vmem S1x8x6656 .f32)
  (harg3 : arg3.IsWhole) (arg4 : Memref sig .tc .vmem S1x16x64x128 .f32) (harg4 : arg4.IsWhole) (arg5 : Memref sig .tc .vmem S1x6656 .f32) (harg5 : arg5.IsWhole) (arg6 : Memref sig .tc .vmem S1x2048 .f32)
  (harg6 : arg6.IsWhole) (arg7 : Memref sig .tc .vmem S128x2048 .f32) (harg7 : arg7.IsWhole) (arg8 : Memref sig .tc .vmem S1x2048 .f32) (harg8 : arg8.IsWhole) (arg9 : Memref sig .tc .vmem S128x2048 .f32)
  (harg9 : arg9.IsWhole) (arg10 : Memref sig .tc .vmem S256x2048 .f32) (harg10 : arg10.IsWhole) (arg11 : Memref sig .tc .vmem S1x2048 .f32) (harg11 : arg11.IsWhole) (arg12 : Memref sig .tc .vmem S1x2048 .f32)
  (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32)
  (harg15 : arg15.IsWhole) (arg16 : Memref sig .tc .vmem S64x2048 .bf16) (harg16 : arg16.IsWhole) (arg17 : Memref sig .tc .vmem S1x16x64x128 .f32) (harg17 : arg17.IsWhole) (arg18 : Memref sig .tc .vmem S72x6144 .f32)
  (harg18 : arg18.IsWhole) (arg19 : Memref sig .tc .vmem S72x512 .f32) (harg19 : arg19.IsWhole) (arg20 : Memref sig .tc .vmem S64x2048 .f32) (harg20 : arg20.IsWhole) (arg21 : Memref sig .tc .vmem S64x2048 .f32)
  (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32)
  (harg24 : arg24.IsWhole) (arg25 : Memref sig .tc .vmem S1024x256 .bf16) (harg25 : arg25.IsWhole) (arg26 : Memref sig .tc .vmem S1024x128 .f32) (harg26 : arg26.IsWhole) (arg27 : Memref sig .tc .vmem S1024x128 .f32)
  (harg27 : arg27.IsWhole) (arg28 : Memref sig .tc .vmem S16x256x128 .bf16) (harg28 : arg28.IsWhole)

set_option maxHeartbeats 4000000 in
/-- The part of the body that chooses between the caller's arrays and what the chunk before left, and stores the wide
    rows. -/
theorem part72_spec (x0 : Vec F S64x6144 .f32) (x1 : Vec F S64x512 .f32) (x2 : Vec F S1x8x6656 .f32) (x3 : Vec F S1x16x64x128 .f32)
    (s17 : Vec F S1x16x64x128 .f32) (s18 : Vec F S72x6144 .f32) (s19 : Vec F S72x512 .f32) (E : Set ℕ) :
    (iprop((arg1.view.loc (c : Thread nD τ) ↦[arg1.view.set]{fullShare} harg1.unread x0)
      ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} harg4.unread x3)
      ∗ (arg17.view.loc (c : Thread nD τ) ↦[arg17.view.set]{fullShare} harg17.unread s17)
      ∗ (arg18.view.loc (c : Thread nD τ) ↦[arg18.view.set]{fullShare} harg18.unread s18)
      ∗ (arg19.view.loc (c : Thread nD τ) ↦[arg19.view.set]{fullShare} harg19.unread s19)) : sProp 𝕄)
      ⊢ wp frame (wpE (defs₀ (F := F)) Variants.none (c : Thread nD τ) none) E
        (k0_part72 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28)
        (fun o => iprop(⌜o = ⟨x0, x1⟩⌝
      ∗ (arg1.view.loc (c : Thread nD τ) ↦[arg1.view.set]{fullShare} harg1.unread x0)
      ∗ (arg2.view.loc (c : Thread nD τ) ↦[arg2.view.set]{fullShare} harg2.unread x1)
      ∗ (arg3.view.loc (c : Thread nD τ) ↦[arg3.view.set]{fullShare} harg3.unread x2)
      ∗ (arg4.view.loc (c : Thread nD τ) ↦[arg4.view.set]{fullShare} harg4.unread x3)
      ∗ (arg17.view.loc (c : Thread nD τ) ↦[arg17.view.set]{fullShare} harg17.unread (P17 i x3 s17))
      ∗ (arg18.view.loc (c : Thread nD τ) ↦[arg18.view.set]{fullShare} harg18.unread (P18 i x0 x2 s18))
      ∗ (arg19.view.loc (c : Thread nD τ) ↦[arg19.view.set]{fullShare} G19 i arg19 harg19 x2 s19))) := by
  rw [k0_part72_eq_skeleton]; unfold k0_part72_skel
  have e0 : View.readAt (Elt F) arg1.view (Rect.unit (s := S64x6144) ![0, 0] S64x6144.size inb_S64x6144_S64x6144_0_0).toLoadRect (harg1.unread x0) = x0 := by
    rw [View.readAt_eq_ld, harg1.read_unread]; exact ld_full _ _
  have e1 : View.readAt (Elt F) arg2.view (Rect.unit (s := S64x512) ![0, 0] S64x512.size inb_S64x512_S64x512_0_0).toLoadRect (harg2.unread x1) = x1 := by
    rw [View.readAt_eq_ld, harg2.read_unread]; exact ld_full _ _
  by_cases hc : isFirst i
  · have e3 : View.readAt (Elt F) arg4.view (Rect.unit (s := S1x16x64x128) ![0, 0, 0, 0] S1x16x64x128.size inb_S1x16x64x128_S1x16x64x128_0_0_0_0).toLoadRect (harg4.unread x3) = x3 := by
      rw [View.readAt_eq_ld, harg4.read_unread]; exact ld_full _ _
    have e2 : View.readAt (Elt F) arg3.view (Rect.unit (s := S1x8x6656) ![0, 0, 0] S1x8x6144.size inb_S1x8x6656_S1x8x6144_0_0_0).toLoadRect (harg3.unread x2)
        = View.ld x2 (Rect.unit (s := S1x8x6656) ![0, 0, 0] S1x8x6144.size inb_S1x8x6656_S1x8x6144_0_0_0) := by
      rw [View.readAt_eq_ld, harg3.read_unread]
    have e2' : View.readAt (Elt F) arg3.view (Rect.unit (s := S1x8x6656) ![0, 0, 6144] S1x8x512.size inb_S1x8x6656_S1x8x512_0_0_6144).toLoadRect (harg3.unread x2)
        = View.ld x2 (Rect.unit (s := S1x8x6656) ![0, 0, 6144] S1x8x512.size inb_S1x8x6656_S1x8x512_0_0_6144) := by
      rw [View.readAt_eq_ld, harg3.read_unread]
    have e17 : arg17.view.writes (Elt F) (harg17.unread s17) [⟨Rect.unit (s := S1x16x64x128) ![0, 0, 0, 0] S1x16x64x128.size inb_S1x16x64x128_S1x16x64x128_0_0_0_0, k0_pay752 x3⟩]
        = harg17.unread (P17 i x3 s17) := by
      rw [stored_whole arg17 harg17]; unfold P17; rw [if_pos hc]
    have e18 : arg18.view.writes (Elt F) (harg18.unread s18) [⟨Rect.unit (s := S72x6144) ![8, 0] S64x6144.size inb_S72x6144_S64x6144_8_0, k0_pay753 x0⟩,
        ⟨Rect.unit (s := S72x6144) ![0, 0] S8x6144.size inb_S72x6144_S8x6144_0_0, k0_pay750 (View.ld x2 (Rect.unit (s := S1x8x6656) ![0, 0, 0] S1x8x6144.size inb_S1x8x6656_S1x8x6144_0_0_0))⟩]
        = harg18.unread (P18 i x0 x2 s18) := by
      apply harg18.eq_unread
      unfold P18; rw [if_pos hc]
      exact View.read_writes_eq_canon arg18.view (harg18.unread s18) _ (View.cover_of_tiledBy _ ![8, 6144] (by sl_kernel_rfl))
    have e19 : arg19.view.writes (Elt F) (harg19.unread s19) [⟨Rect.unit (s := S72x512) ![0, 0] S8x512.size inb_S72x512_S8x512_0_0, k0_pay751 (View.ld x2 (Rect.unit (s := S1x8x6656) ![0, 0, 6144] S1x8x512.size inb_S1x8x6656_S1x8x512_0_0_6144))⟩]
        = G19 i arg19 harg19 x2 s19 := by
      unfold G19; rw [if_pos hc]
    rw [← e17, ← e18, ← e19]
    iintro ⟨H1, H2, H3, H4, H17, H18, H19⟩
    sl_exec (disch := first | sl_exact hc)
    sl_step
    isplitr; · ipureintro; rfl
    iframe
  · have e18 : arg18.view.writes (Elt F) (harg18.unread s18) [⟨Rect.unit (s := S72x6144) ![8, 0] S64x6144.size inb_S72x6144_S64x6144_8_0, k0_pay753 x0⟩]
        = harg18.unread (P18 i x0 x2 s18) := by
      apply harg18.eq_unread
      unfold P18; rw [if_neg hc]
      exact rows_kept arg18 harg18 s18 inb_S72x6144_S64x6144_8_0 inb_S72x6144_S8x6144_0_0 (k0_pay753 x0) rfl rfl rfl rfl rfl rfl fun u => View.cover_of_tiledBy _ ![8, 6144] (by sl_kernel_rfl)
    have e17 : harg17.unread s17 = harg17.unread (P17 i x3 s17) := by unfold P17; rw [if_neg hc]
    have e19 : harg19.unread s19 = G19 i arg19 harg19 x2 s19 := by unfold G19; rw [if_neg hc]
    rw [← e17, ← e18, ← e19]
    iintro ⟨H1, H2, H3, H4, H17, H18, H19⟩
    sl_exec (disch := first | sl_exact hc)
    sl_step
    isplitr; · ipureintro; rfl
    iframe

end Part

end Cert.KernelIdeal.Hand

end
-- ==== Proof.Hand.Body.lean ====
/- One chunk's body, run once for a first chunk and a later one alike: the part that tells them apart is in `part72_spec`. -/
module

public import proofs.«01_k».proof.Proof.Hand.Part

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer whose stores cover it is held at what they leave, whatever it held before. -/
theorem hold_canon {s : Shape} {e : EltTy} (c : Dev nD) (m : Memref sig .tc .vmem s e) (h : m.IsWhole) (f : m.view.ty.Contents (Elt F)) (L : List (View.Piece (Elt F) s e))
    (hc : ∀ y : s.Idx, ∃ p ∈ L, y ∈ p.1.set) :
    ((m.view.loc (c : Thread nD τ) ↦[m.view.set]{fullShare} m.view.writes (Elt F) f L) : sProp 𝕄)
      ⊢ (m.view.loc (c : Thread nD τ) ↦[m.view.set]{fullShare} h.unread (View.canon L)) :=
  hold_congr (h.eq_unread (View.read_writes_eq_canon m.view f L hc))

/-- A buffer stored whole is owned at what was stored. -/
theorem owns_of_stored {s : Shape} {e : EltTy} (c : Dev nD) (m : Memref sig .tc .vmem s e) (h : m.IsWhole) (f : m.view.ty.Contents (Elt F))
    {off : Fin s.rank → ℕ} (inb : ∀ a, off a + s.size a ≤ s.size a) (w : Vec F s e) :
    ((m.view.loc (c : Thread nD τ) ↦[m.view.set]{fullShare} m.view.writes (Elt F) f [⟨Rect.unit (s := s) off s.size inb, w⟩]) : sProp 𝕄)
      ⊢ owns (c : Thread nD τ) m fullShare w := by
  rw [stored_whole m h f inb w]
  unfold owns
  iintro H; iexists _; isplitr; swap; · iexact H
  ipureintro; exact h.read_unread _

section Body
variable (c : Dev nD)
  (i : grid0.Coords) (arg1 : Memref sig .tc .vmem S64x6144 .f32) (harg1 : arg1.IsWhole) (arg2 : Memref sig .tc .vmem S64x512 .f32) (harg2 : arg2.IsWhole) (arg3 : Memref sig .tc .vmem S1x8x6656 .f32)
  (harg3 : arg3.IsWhole) (arg4 : Memref sig .tc .vmem S1x16x64x128 .f32) (harg4 : arg4.IsWhole) (arg5 : Memref sig .tc .vmem S1x6656 .f32) (harg5 : arg5.IsWhole) (arg6 : Memref sig .tc .vmem S1x2048 .f32)
  (harg6 : arg6.IsWhole) (arg7 : Memref sig .tc .vmem S128x2048 .f32) (harg7 : arg7.IsWhole) (arg8 : Memref sig .tc .vmem S1x2048 .f32) (harg8 : arg8.IsWhole) (arg9 : Memref sig .tc .vmem S128x2048 .f32)
  (harg9 : arg9.IsWhole) (arg10 : Memref sig .tc .vmem S256x2048 .f32) (harg10 : arg10.IsWhole) (arg11 : Memref sig .tc .vmem S1x2048 .f32) (harg11 : arg11.IsWhole) (arg12 : Memref sig .tc .vmem S1x2048 .f32)
  (harg12 : arg12.IsWhole) (arg13 : Memref sig .tc .vmem S1x2048 .f32) (harg13 : arg13.IsWhole) (arg14 : Memref sig .tc .vmem S1x2048 .f32) (harg14 : arg14.IsWhole) (arg15 : Memref sig .tc .vmem S1x2048 .f32)
  (harg15 : arg15.IsWhole) (arg16 : Memref sig .tc .vmem S64x2048 .bf16) (harg16 : arg16.IsWhole) (arg17 : Memref sig .tc .vmem S1x16x64x128 .f32) (harg17 : arg17.IsWhole) (arg18 : Memref sig .tc .vmem S72x6144 .f32)
  (harg18 : arg18.IsWhole) (arg19 : Memref sig .tc .vmem S72x512 .f32) (harg19 : arg19.IsWhole) (arg20 : Memref sig .tc .vmem S64x2048 .f32) (harg20 : arg20.IsWhole) (arg21 : Memref sig .tc .vmem S64x2048 .f32)
  (harg21 : arg21.IsWhole) (arg22 : Memref sig .tc .vmem S64x2048 .f32) (harg22 : arg22.IsWhole) (arg23 : Memref sig .tc .vmem S64x2048 .f32) (harg23 : arg23.IsWhole) (arg24 : Memref sig .tc .vmem S64x2048 .f32)
  (harg24 : arg24.IsWhole) (arg25 : Memref sig .tc .vmem S1024x256 .bf16) (harg25 : arg25.IsWhole) (arg26 : Memref sig .tc .vmem S1024x128 .f32) (harg26 : arg26.IsWhole) (arg27 : Memref sig .tc .vmem S1024x128 .f32)
  (harg27 : arg27.IsWhole) (arg28 : Memref sig .tc .vmem S16x256x128 .bf16) (harg28 : arg28.IsWhole)

set_option maxHeartbeats 20000000 in
/-- What a chunk leaves in its two output blocks and the two carried row buffers, as functions of the blocks it reads and of
    what it starts from (`p17`, `p18`, `p19`), with the proof that the body runs to them. -/
def bodyRun (x0 : Vec F S64x6144 .f32) (x1 : Vec F S64x512 .f32) (x2 : Vec F S1x8x6656 .f32) (x3 : Vec F S1x16x64x128 .f32) (x4 : Vec F S1x6656 .f32) (x5 : Vec F S1x2048 .f32) (x6 : Vec F S128x2048 .f32) (x7 : Vec F S1x2048 .f32) (x8 : Vec F S128x2048 .f32) (x9 : Vec F S256x2048 .f32) (x10 : Vec F S1x2048 .f32) (x11 : Vec F S1x2048 .f32) (x12 : Vec F S1x2048 .f32) (x13 : Vec F S1x2048 .f32) (x14 : Vec F S1x2048 .f32)
    (p17 : Vec F S1x16x64x128 .f32) (p18 : Vec F S72x6144 .f32) (p19 : Vec F S72x512 .f32) :
    Σ' (H16 : Vec F S64x2048 .bf16), Σ' (H17 : Vec F S1x16x64x128 .f32), Σ' (H18 : Vec F S72x6144 .f32), { H19 : Vec F S72x512 .f32 //
      ∀ (s17 : Vec F S1x16x64x128 .f32) (s18 : Vec F S72x6144 .f32) (s19 : Vec F S72x512 .f32),
        p17 = P17 i x3 s17 → p18 = P18 i x0 x2 s18 → p19 = P19 i x1 x2 s19 → ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ iprop(∃ d, owns (c : Thread nD τ) arg16 fullShare d) ∗ owns (c : Thread nD τ) arg17 fullShare s17 ∗ owns (c : Thread nD τ) arg18 fullShare s18 ∗ owns (c : Thread nD τ) arg19 fullShare s19 ∗ iprop(∃ d, owns (c : Thread nD τ) arg20 fullShare d) ∗ iprop(∃ d, owns (c : Thread nD τ) arg21 fullShare d) ∗ iprop(∃ d, owns (c : Thread nD τ) arg22 fullShare d) ∗ iprop(∃ d, owns (c : Thread nD τ) arg23 fullShare d) ∗ iprop(∃ d, owns (c : Thread nD τ) arg24 fullShare d) ∗ iprop(∃ d, owns (c : Thread nD τ) arg25 fullShare d) ∗ iprop(∃ d, owns (c : Thread nD τ) arg26 fullShare d) ∗ iprop(∃ d, owns (c : Thread nD τ) arg27 fullShare d) ∗ iprop(∃ d, owns (c : Thread nD τ) arg28 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare H16 ∗ owns (c : Thread nD τ) arg17 fullShare H17 ∗ owns (c : Thread nD τ) arg18 fullShare H18 ∗ owns (c : Thread nD τ) arg19 fullShare H19 ∗ iprop(∃ d, owns (c : Thread nD τ) arg20 fullShare d) ∗ iprop(∃ d, owns (c : Thread nD τ) arg21 fullShare d) ∗ iprop(∃ d, owns (c : Thread nD τ) arg22 fullShare d) ∗ iprop(∃ d, owns (c : Thread nD τ) arg23 fullShare d) ∗ iprop(∃ d, owns (c : Thread nD τ) arg24 fullShare d) ∗ iprop(∃ d, owns (c : Thread nD τ) arg25 fullShare d) ∗ iprop(∃ d, owns (c : Thread nD τ) arg26 fullShare d) ∗ iprop(∃ d, owns (c : Thread nD τ) arg27 fullShare d) ∗ iprop(∃ d, owns (c : Thread nD τ) arg28 fullShare d)) -∗ K ⟨⟩))
          ⊢ wp frame (wpE (defs₀ (F := F)) Variants.none (c : Thread nD τ) none) Set.univ (cc0_rwkv (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, fun s17 s18 s19 h17 h18 h19 K => ?run⟩
  case run =>
    have hpart := part72_spec (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 s17 s18 s19 Set.univ
    rw [← h17, ← h18] at hpart
    have e19 := (G19_stored i arg19 harg19 x1 x2 s19).trans (congrArg harg19.unread h19.symm)
    simp only [cc0_rwkv_eq_skeleton]; unfold cc0_rwkv_skel
    rw [k0_part113_eq_skeleton]; unfold k0_part113_skel
    rw [wp_bind, wp_bind]
    generalize hq : @k0_part103 F _ = q
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg17.eq_unread hf17; obtain rfl := harg18.eq_unread hf18; obtain rfl := harg19.eq_unread hf19
    iapply (wp_wand_r Idealize.ShloMosaic.frame (wpE (defs₀ (F := F)) Variants.none (c : Thread nD τ) none) Set.univ)
    isplitl [H1 H2 H3 H4 H17 H18 H19]
    · iapply hpart; iframe
    iintro %o ⟨%ho, H1, H2, H3, H4, H17, H18, H19⟩
    subst ho
    rw [wp_bind]
    rw [k0_part73_eq_skeleton]; unfold k0_part73_skel
    rw [Prog.bind_lift]
    sl_step
    rw [Prog.bind_lift]
    sl_step
    ihave H19 := (hold_congr e19) $$ H19
    sl_exec
    sl_step
    sl_exec
    ihave H20 := (hold_congr (stored_whole arg20 harg20 _ inb_S64x2048_S64x2048_0_0 _)) $$ H20
    ihave H21 := (hold_congr (stored_whole arg21 harg21 _ inb_S64x2048_S64x2048_0_0 _)) $$ H21
    ihave H22 := (hold_congr (stored_whole arg22 harg22 _ inb_S64x2048_S64x2048_0_0 _)) $$ H22
    ihave H23 := (hold_congr (stored_whole arg23 harg23 _ inb_S64x2048_S64x2048_0_0 _)) $$ H23
    ihave H25 := (hold_canon c arg25 harg25 _ _ (View.cover_of_tiledBy _ ![64, 256] (by sl_kernel_rfl))) $$ H25
    subst hq
    rw [wp_bind]
    rw [k0_part103_eq_skeleton]; unfold k0_part103_skel
    rw [Prog.bind_lift]
    sl_step
    rw [Prog.bind_lift]
    sl_step
    ihave H26 := (hold_congr (stored_whole arg26 harg26 _ inb_S1024x128_S1024x128_0_0 _)) $$ H26
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    ihave H16 := (hold_congr (stored_whole arg16 harg16 _ inb_S64x2048_S64x2048_0_0 _)) $$ H16
    isplitl [H16]
    · iexists _; isplitr; swap; · iexact H16
      ipureintro; exact harg16.read_unread _
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    isplitl [H20]
    · iexists _; iexists _; isplitr; swap; · iexact H20
      ipureintro; rfl
    isplitl [H21]
    · iexists _; iexists _; isplitr; swap; · iexact H21
      ipureintro; rfl
    isplitl [H22]
    · iexists _; iexists _; isplitr; swap; · iexact H22
      ipureintro; rfl
    isplitl [H23]
    · iexists _; iexists _; isplitr; swap; · iexact H23
      ipureintro; rfl
    isplitl [H24]
    · iexists _; iexists _; isplitr; swap; · iexact H24
      ipureintro; rfl
    isplitl [H25]
    · iexists _; iexists _; isplitr; swap; · iexact H25
      ipureintro; rfl
    isplitl [H26]
    · iexists _; iexists _; isplitr; swap; · iexact H26
      ipureintro; rfl
    isplitl [H27]
    · iexists _; iexists _; isplitr; swap; · iexact H27
      ipureintro; rfl
    iexists _; iexists _; isplitr; swap; · iexact H28
    ipureintro; rfl

end Body

end Cert.KernelIdeal.Hand

end
-- ==== Proof.Hand.Frame.lean ====
/- The chunks one after another: what each starts from is what the one before left, so the whole grid's outputs are named,
   and the launch runs to them. -/
module

public import proofs.«01_k».proof.Proof.Hand.Body
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S64x6144 .f32 := win0_0.stage (cfg0.slots t 0)
abbrev ms1 (t : Fin cfg0.N) : Memref sig .tc .vmem S64x512 .f32 := win0_1.stage (cfg0.slots t 1)
abbrev ms2 (t : Fin cfg0.N) : Memref sig .tc .vmem S1x8x6656 .f32 := win0_2.stage (cfg0.slots t 2)
abbrev ms3 (t : Fin cfg0.N) : Memref sig .tc .vmem S1x16x64x128 .f32 := win0_3.stage (cfg0.slots t 3)
abbrev ms4 (t : Fin cfg0.N) : Memref sig .tc .vmem S1x6656 .f32 := win0_4.stage (cfg0.slots t 4)
abbrev ms5 (t : Fin cfg0.N) : Memref sig .tc .vmem S1x2048 .f32 := win0_5.stage (cfg0.slots t 5)
abbrev ms6 (t : Fin cfg0.N) : Memref sig .tc .vmem S128x2048 .f32 := win0_6.stage (cfg0.slots t 6)
abbrev ms7 (t : Fin cfg0.N) : Memref sig .tc .vmem S1x2048 .f32 := win0_7.stage (cfg0.slots t 7)
abbrev ms8 (t : Fin cfg0.N) : Memref sig .tc .vmem S128x2048 .f32 := win0_8.stage (cfg0.slots t 8)
abbrev ms9 (t : Fin cfg0.N) : Memref sig .tc .vmem S256x2048 .f32 := win0_9.stage (cfg0.slots t 9)
abbrev ms10 (t : Fin cfg0.N) : Memref sig .tc .vmem S1x2048 .f32 := win0_10.stage (cfg0.slots t 10)
abbrev ms11 (t : Fin cfg0.N) : Memref sig .tc .vmem S1x2048 .f32 := win0_11.stage (cfg0.slots t 11)
abbrev ms12 (t : Fin cfg0.N) : Memref sig .tc .vmem S1x2048 .f32 := win0_12.stage (cfg0.slots t 12)
abbrev ms13 (t : Fin cfg0.N) : Memref sig .tc .vmem S1x2048 .f32 := win0_13.stage (cfg0.slots t 13)
abbrev ms14 (t : Fin cfg0.N) : Memref sig .tc .vmem S1x2048 .f32 := win0_14.stage (cfg0.slots t 14)
abbrev ms15 (t : Fin cfg0.N) : Memref sig .tc .vmem S64x2048 .bf16 := win0_15.stage (cfg0.slots t 15)
abbrev ms16 (t : Fin cfg0.N) : Memref sig .tc .vmem S1x16x64x128 .f32 := win0_16.stage (cfg0.slots t 16)
abbrev sc0 : Memref sig .tc .vmem S72x6144 .f32 := Memref.whole cc0_scratch0
abbrev sc1 : Memref sig .tc .vmem S72x512 .f32 := Memref.whole cc0_scratch1
abbrev sc2 : Memref sig .tc .vmem S64x2048 .f32 := Memref.whole cc0_scratch2
abbrev sc3 : Memref sig .tc .vmem S64x2048 .f32 := Memref.whole cc0_scratch3
abbrev sc4 : Memref sig .tc .vmem S64x2048 .f32 := Memref.whole cc0_scratch4
abbrev sc5 : Memref sig .tc .vmem S64x2048 .f32 := Memref.whole cc0_scratch5
abbrev sc6 : Memref sig .tc .vmem S64x2048 .f32 := Memref.whole cc0_scratch6
abbrev sc7 : Memref sig .tc .vmem S1024x256 .bf16 := Memref.whole cc0_scratch7
abbrev sc8 : Memref sig .tc .vmem S1024x128 .f32 := Memref.whole cc0_scratch8
abbrev sc9 : Memref sig .tc .vmem S1024x128 .f32 := Memref.whole cc0_scratch9
abbrev sc10 : Memref sig .tc .vmem S16x256x128 .bf16 := Memref.whole cc0_scratch10

/-- What a chunk leaves: its rows of the result, then the state and the two row buffers handed on. -/
abbrev Outs (F : FTy → Type) : Type := Vec F S64x2048 .bf16 × Vec F S1x16x64x128 .f32 × Vec F S72x6144 .f32 × Vec F S72x512 .f32

/-- What the chunk at point `t` leaves, from what it starts with. -/
def step (c : Dev nD) (t : Fin cfg0.N) (p17 : Vec F S1x16x64x128 .f32) (p18 : Vec F S72x6144 .f32) (p19 : Vec F S72x512 .f32) : Outs F :=
  let o := bodyRun (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p17 p18 p19
  (o.1, o.2.1, o.2.2.1, o.2.2.2.1)

/-- What the chunk at point `t` leaves, from what the point before left. -/
def stepOn (c : Dev nD) (t : Fin cfg0.N) (s : Vec F S1x16x64x128 .f32 × Vec F S72x6144 .f32 × Vec F S72x512 .f32) : Outs F :=
  step m c t (P17 (grid0.coords t) (iblk m c 3 t) s.1) (P18 (grid0.coords t) (X0_0 m c t) (iblk m c 2 t) s.2.1)
    (P19 (grid0.coords t) (iblk m c 1 t) (iblk m c 2 t) s.2.2)

/-- What the chunks leave, in order. -/
def outsAt (c : Dev nD) : (n : ℕ) → n < cfg0.N → Outs F
  | 0, h => stepOn m c ⟨0, h⟩ (constant S1x16x64x128 .f32 0x00000000#32, constant S72x6144 .f32 0x00000000#32, constant S72x512 .f32 0x00000000#32)
  | n + 1, h => stepOn m c ⟨n + 1, h⟩ (outsAt c n (Nat.lt_of_succ_lt h)).2

theorem stepOn_first (c : Dev nD) (t : Fin cfg0.N) (h : isFirst (grid0.coords t)) (s s' : Vec F S1x16x64x128 .f32 × Vec F S72x6144 .f32 × Vec F S72x512 .f32) :
    stepOn m c t s = stepOn m c t s' := by
  unfold stepOn
  rw [P17_first h _ s.1 s'.1, P18_first h _ _ s.2.1 s'.2.1, P19_first h _ _ s.2.2 s'.2.2]

/-- A sequence's first chunk takes nothing from the point before. -/
theorem outsAt_first (c : Dev nD) (t : Fin cfg0.N) (h : isFirst (grid0.coords t)) (s : Vec F S1x16x64x128 .f32 × Vec F S72x6144 .f32 × Vec F S72x512 .f32) :
    outsAt m c t.val t.isLt = stepOn m c t s := by
  obtain ⟨n, hn⟩ := t
  cases n with
  | zero => exact stepOn_first m c _ h _ _
  | succ n => exact stepOn_first m c _ h _ _

/-- A later chunk goes on from the point before. -/
theorem outsAt_pos (c : Dev nD) (t : Fin cfg0.N) (h : t.val ≠ 0) :
    outsAt m c t.val t.isLt = stepOn m c t (outsAt m c (t.val - 1) (Nat.lt_of_le_of_lt (Nat.sub_le _ _) t.isLt)).2 := by
  obtain ⟨n, hn⟩ := t
  cases n with
  | zero => exact absurd rfl h
  | succ n => rfl

/-- The buffers no chunk hands on, at anything, and the generator's register. -/
def Rest (c : Dev nD) : sProp 𝕄 := iprop(((∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d)) ∗ (∃ r, prngReg c r))

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d)) ∗ (∃ r, prngReg c r)) := by
  unfold Pipeline.ΦA; rw [scopedRest0_eq]; simp only [sc0, sc1, sc2, sc3, sc4, sc5, sc6, sc7, sc8, sc9, sc10, owns_whole]; try rfl

/-- What holds between points: the two row buffers at what the last chunk left in them. -/
def PhiS (c : Dev nD) : (n : ℕ) → n ≤ cfg0.N → sProp 𝕄
  | 0, _ => Pipeline.ΦA spec0 c
  | n + 1, hn => iprop(owns (c : Thread nD τ) sc0 fullShare (outsAt m c n hn).2.2.1 ∗ owns (c : Thread nD τ) sc1 fullShare (outsAt m c n hn).2.2.2 ∗ Rest c)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) sc0 fullShare (outsAt m c n hn).2.2.1 ∗ owns (c : Thread nD τ) sc1 fullShare (outsAt m c n hn).2.2.2 ∗ Rest c) := rfl

theorem PhiS_pos (c : Dev nD) (n : ℕ) (h : n ≤ cfg0.N) (hz : n ≠ 0) :
    PhiS m c n h = iprop(owns (c : Thread nD τ) sc0 fullShare (outsAt m c (n - 1) (by omega)).2.2.1 ∗ owns (c : Thread nD τ) sc1 fullShare (outsAt m c (n - 1) (by omega)).2.2.2 ∗ Rest c) := by
  cases n with
  | zero => exact absurd rfl hz
  | succ n => rfl

/-- The class's condition from the two row buffers at anything, and back. -/
theorem phiA_split (c : Dev nD) :
    (Pipeline.ΦA spec0 c : sProp 𝕄) ⊢ iprop((∃ d, owns (c : Thread nD τ) sc0 fullShare d) ∗ (∃ d, owns (c : Thread nD τ) sc1 fullShare d) ∗ Rest c) := by
  rw [PhiA0_eq]; unfold Rest
  iintro ⟨⟨H0, H1, Hr⟩, Hg⟩
  isplitl [H0]; · iexact H0
  isplitl [H1]; · iexact H1
  isplitl [Hr]; · iexact Hr
  iexact Hg

theorem phiA_join (c : Dev nD) (d0 : Vec F S72x6144 .f32) (d1 : Vec F S72x512 .f32) :
    iprop(owns (c : Thread nD τ) sc0 fullShare d0 ∗ owns (c : Thread nD τ) sc1 fullShare d1 ∗ Rest c) ⊢ (Pipeline.ΦA spec0 c : sProp 𝕄) := by
  rw [PhiA0_eq]; unfold Rest
  iintro ⟨H0, H1, Hr, Hg⟩
  isplitl [H0 H1 Hr]
  · isplitl [H0]
    · iexists _; iexact H0
    isplitl [H1]
    · iexists _; iexact H1
    iexact Hr
  iexact Hg

/-- Every window's blocks: the inputs' as they are, the two outputs' as the chunks leave them. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t.val t.isLt).1
    | ⟨16, _⟩ => (outsAt m c t.val t.isLt).2.1
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = (outsAt m c t.val t.isLt).1 := by dsimp only [dats]
theorem after_16 (c : Dev nD) (t : Fin cfg0.N) : (dats m 0 c).after 16 t = (outsAt m c t.val t.isLt).2.1 := by dsimp only [dats]
theorem before_0 (c : Dev nD) (t : Fin cfg0.N) (d) : (dats m 0 c).before 0 t d = X0_0 m c t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d

/-- The state's block is written back only when the next point begins a sequence. -/
theorem kept_16 : ∀ t : Fin cfg0.N, ¬ isFirst (grid0.coords t) → t.val ≠ 0 ∧ (cfg0.win 16).flush ⟨t.val - 1, Nat.lt_of_le_of_lt (Nat.sub_le _ _) t.isLt⟩ = false :=
  (by decide +kernel : ∀ t : Fin grid0.N, ¬ isFirst (grid0.coords t) → t.val ≠ 0 ∧ (cfg0.win 16).flush ⟨t.val - 1, Nat.lt_of_le_of_lt (Nat.sub_le _ _) t.isLt⟩ = false)

theorem before_16 (c : Dev nD) (t : Fin cfg0.N) (h : ¬ isFirst (grid0.coords t)) (d) :
    (dats m 0 c).before 16 t d = (outsAt m c (t.val - 1) (Nat.lt_of_le_of_lt (Nat.sub_le _ _) t.isLt)).2.1 :=
  ((dats m 0 c).before_out_kept 16 rfl t (kept_16 t h).1 (kept_16 t h).2 (fun _ => rfl) (fun _ _ => rfl) d).trans
    (after_16 m c _)

set_option maxHeartbeats 8000000 in
/-- The run at a point, on its own blocks. -/
theorem step_spec (c : Dev nD) (t : Fin cfg0.N) (s17 : Vec F S1x16x64x128 .f32) (s18 : Vec F S72x6144 .f32) (s19 : Vec F S72x512 .f32) (K : PUnit → sProp 𝕄) :
    iprop(owns (c : Thread nD τ) (ms0 t) fullShare (X0_0 m c t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ iprop(∃ d, owns (c : Thread nD τ) (ms15 t) fullShare d) ∗ owns (c : Thread nD τ) (ms16 t) fullShare s17 ∗ owns (c : Thread nD τ) sc0 fullShare s18 ∗ owns (c : Thread nD τ) sc1 fullShare s19 ∗ iprop(∃ d, owns (c : Thread nD τ) sc2 fullShare d) ∗ iprop(∃ d, owns (c : Thread nD τ) sc3 fullShare d) ∗ iprop(∃ d, owns (c : Thread nD τ) sc4 fullShare d) ∗ iprop(∃ d, owns (c : Thread nD τ) sc5 fullShare d) ∗ iprop(∃ d, owns (c : Thread nD τ) sc6 fullShare d) ∗ iprop(∃ d, owns (c : Thread nD τ) sc7 fullShare d) ∗ iprop(∃ d, owns (c : Thread nD τ) sc8 fullShare d) ∗ iprop(∃ d, owns (c : Thread nD τ) sc9 fullShare d) ∗ iprop(∃ d, owns (c : Thread nD τ) sc10 fullShare d)
      ∗ (iprop(owns (c : Thread nD τ) (ms0 t) fullShare (X0_0 m c t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ owns (c : Thread nD τ) (ms15 t) fullShare (stepOn m c t (s17, s18, s19)).1 ∗ owns (c : Thread nD τ) (ms16 t) fullShare (stepOn m c t (s17, s18, s19)).2.1
          ∗ owns (c : Thread nD τ) sc0 fullShare (stepOn m c t (s17, s18, s19)).2.2.1 ∗ owns (c : Thread nD τ) sc1 fullShare (stepOn m c t (s17, s18, s19)).2.2.2 ∗ iprop(∃ d, owns (c : Thread nD τ) sc2 fullShare d) ∗ iprop(∃ d, owns (c : Thread nD τ) sc3 fullShare d) ∗ iprop(∃ d, owns (c : Thread nD τ) sc4 fullShare d) ∗ iprop(∃ d, owns (c : Thread nD τ) sc5 fullShare d) ∗ iprop(∃ d, owns (c : Thread nD τ) sc6 fullShare d) ∗ iprop(∃ d, owns (c : Thread nD τ) sc7 fullShare d) ∗ iprop(∃ d, owns (c : Thread nD τ) sc8 fullShare d) ∗ iprop(∃ d, owns (c : Thread nD τ) sc9 fullShare d) ∗ iprop(∃ d, owns (c : Thread nD τ) sc10 fullShare d)) -∗ K ⟨⟩))
      ⊢ wp frame (wpE (defs₀ (F := F)) Variants.none (c : Thread nD τ) none) Set.univ (bodyAt0 t) K := by
  unfold stepOn step
  dsimp only []
  generalize bodyRun (F := F) c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (ms9 t) (hstage0_9 ((cfg0.slots t 9).cast nbuf0_9)) (ms10 t) (hstage0_10 ((cfg0.slots t 10).cast nbuf0_10)) (ms11 t) (hstage0_11 ((cfg0.slots t 11).cast nbuf0_11)) (ms12 t) (hstage0_12 ((cfg0.slots t 12).cast nbuf0_12)) (ms13 t) (hstage0_13 ((cfg0.slots t 13).cast nbuf0_13)) (ms14 t) (hstage0_14 ((cfg0.slots t 14).cast nbuf0_14)) (ms15 t) (hstage0_15 ((cfg0.slots t 15).cast nbuf0_15)) (ms16 t) (hstage0_16 ((cfg0.slots t 16).cast nbuf0_16)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _) (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ = o
  exact o.2.2.2.2 s17 s18 s19 rfl rfl rfl K

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t))

set_option maxHeartbeats 4000000 in
/-- A point's body, whatever it starts from, so long as what it starts from gives what the chunk there is said to leave. -/
theorem sound_at (c : Dev nD) (t : Fin cfg0.N) (s17 : Vec F S1x16x64x128 .f32) (s18 : Vec F S72x6144 .f32) (s19 : Vec F S72x512 .f32)
    (h : outsAt m c t.val t.isLt = stepOn m c t (s17, s18, s19)) :
    iprop(owns (c : Thread nD τ) sc0 fullShare s18 ∗ owns (c : Thread nD τ) sc1 fullShare s19 ∗ Rest c ∗ (dats m 0 c).owesAt () t.castSucc
      ∗ owns (c : Thread nD τ) (ms0 t) fullShare (X0_0 m c t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t) ∗ owns (c : Thread nD τ) (ms9 t) fullShare (iblk m c 9 t) ∗ owns (c : Thread nD τ) (ms10 t) fullShare (iblk m c 10 t) ∗ owns (c : Thread nD τ) (ms11 t) fullShare (iblk m c 11 t) ∗ owns (c : Thread nD τ) (ms12 t) fullShare (iblk m c 12 t) ∗ owns (c : Thread nD τ) (ms13 t) fullShare (iblk m c 13 t) ∗ owns (c : Thread nD τ) (ms14 t) fullShare (iblk m c 14 t) ∗ (∃ d, owns (c : Thread nD τ) (ms15 t) fullShare ((dats m 0 c).before 15 t d)) ∗ owns (c : Thread nD τ) (ms16 t) fullShare s17)
      ⊢ wp frame (wpE (defs₀ (F := F)) Variants.none c none) Set.univ (bodyAt0 t) (fun _ => bodyPost m c t) := by
  unfold bodyPost Rest
  rw [show (dats m 0 c).owesAt () t.succ = (dats m 0 c).owesAt () t.castSucc from rfl,
    after_0, after_1, after_2, after_3, after_4, after_5, after_6, after_7, after_8, after_9, after_10, after_11, after_12, after_13, after_14, after_15, after_16]
  rw [show (dats m 0 c).Φ t.succ = PhiS m c (t.val + 1) t.isLt from rfl, PhiS_succ, h]
  unfold Rest
  iintro ⟨HS0, HS1, ⟨⟨HS2, HS3, HS4, HS5, HS6, HS7, HS8, HS9, HS10⟩, Hg⟩, Ho, H0, H1, H2, H3, H4, H5, H6, H7, H8, H9, H10, H11, H12, H13, H14, ⟨%d15, H15⟩, H16⟩
  iapply (step_spec m c t s17 s18 s19 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · iexists _; iexact H15
  isplitl [H16]; · iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, H8, H9, H10, H11, H12, H13, H14, H15, H16, HS0, HS1, HS2, HS3, HS4, HS5, HS6, HS7, HS8, HS9, HS10⟩
  isplitl [HS0 HS1 HS2 HS3 HS4 HS5 HS6 HS7 HS8 HS9 HS10 Hg]
  · isplitl [HS0]; · iexact HS0
    isplitl [HS1]; · iexact HS1
    isplitl [HS2 HS3 HS4 HS5 HS6 HS7 HS8 HS9 HS10]
    · isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact HS10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4, before_5, before_6, before_7, before_8, before_9, before_10, before_11, before_12, before_13, before_14]
  rw [PhiS_castSucc m c t]
  by_cases hf : isFirst (grid0.coords t)
  · have hsplit : PhiS m c t.val (Nat.le_of_lt t.isLt) ⊢ iprop((∃ d, owns (c : Thread nD τ) sc0 fullShare d) ∗ (∃ d, owns (c : Thread nD τ) sc1 fullShare d) ∗ Rest c) := by
      by_cases hz : t.val = 0
      · rw [PhiS_zero m c _ _ hz]; exact phiA_split c
      · rw [PhiS_pos m c _ _ hz]
        iintro ⟨H0, H1, Hr⟩
        isplitl [H0]
        · iexists _; iexact H0
        isplitl [H1]
        · iexists _; iexact H1
        iexact Hr
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    ihave HP := hsplit $$ HP
    icases HP with ⟨⟨%s18, HS0⟩, ⟨%s19, HS1⟩, Hr⟩
    iapply (sound_at m c t _ s18 s19 (outsAt_first m c t hf _))
    isplitl [HS0]; · iexact HS0
    isplitl [HS1]; · iexact HS1
    isplitl [Hr]; · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists _; iexact H15
    iexact H16
  · simp only [before_16 m c t hf]
    rw [PhiS_pos m c _ _ (kept_16 t hf).1]
    iintro ⟨⟨HS0, HS1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply (sound_at m c t _ _ _ (outsAt_pos m c t (kept_16 t hf).1))
    isplitl [HS0]; · iexact HS0
    isplitl [HS1]; · iexact HS1
    isplitl [Hr]; · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · iexists _; iexact H15
    iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 144 := N_0; omega)]
  exact phiA_join c _ _

set_option backward.isDefEq.respectTransparency.types false in
/-- The launch: every execution ends, the outputs' blocks at what the chunks leave, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments end as they began, and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Hand.InRun.lean ====
/- One point of the in-projection: the first row tile of a column tile takes that tile's weights into the buffer of narrow
   weights, shifted by the group's width past the convolution's columns, and every row tile is multiplied by the buffer. -/
module

public import proofs.«01_k».proof.Proof.Gen.Kernel2Ideal.Frame
public import proofs.«01_k».proof.Proof.Gen.Kernel2Ideal.Skeleton
public import Idealize.ShloMosaic.Lib.Pipeline.Frame
public import Idealize.ShloMosaic.Lib.Pipeline.ArrRel
public import Idealize.ShloMosaic.Lib.Tactic
public import Idealize.ShloMosaic.Lib.WritesUnit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first row tile of a column tile before the shift. -/
abbrev copies (i : grid0.Coords) : Prop :=
  (Scalar.cmpi .ne (Scalar.extui (Scalar.andi (Scalar.cmpi .eq (BitVec.ofNat 32 (i 1).val) 0#32) (Scalar.cmpi .slt (BitVec.ofNat 32 (i 0).val) 12#32)) : BitVec 32) 0#32) = 1#1
/-- The first row tile of a shifted column tile. -/
abbrev shifts (i : grid0.Coords) : Prop :=
  (Scalar.cmpi .ne (Scalar.extui (Scalar.andi (Scalar.cmpi .eq (BitVec.ofNat 32 (i 1).val) 0#32) (Scalar.cmpi .sge (BitVec.ofNat 32 (i 0).val) 12#32)) : BitVec 32) 0#32) = 1#1

theorem copies_iff : ∀ t : Fin grid0.N, copies (grid0.coords t) ↔ t.val % 9 = 0 ∧ t.val / 9 < 12 := by decide +kernel
theorem shifts_iff : ∀ t : Fin grid0.N, shifts (grid0.coords t) ↔ t.val % 9 = 0 ∧ 12 ≤ t.val / 9 := by decide +kernel

/-- The buffer of narrow weights once the point's branch is through. -/
def filled (i : grid0.Coords) (x3 : Vec F S512x4096 .f32) (x4 : Vec F S128x4096 .f32) (s6 : Vec F S512x4096 .bf16) : Vec F S512x4096 .bf16 :=
  if copies i then k0_pay1 x3 else if shifts i then k0_pay2 x3 x4 else s6

/-- A window read whole. -/
theorem load_all {s : Shape} {e : EltTy} {κ : Kind} {sp : Space} (m : Memref sig κ sp s e) (h : m.IsWhole) {off : Fin s.rank → ℕ}
    (h0 : off = fun _ => 0) (inb : ∀ a, off a + s.size a ≤ s.size a) (x : Vec F s e) :
    View.readAt (Elt F) m.view (Rect.unit (s := s) off s.size inb).toLoadRect (h.unread x) = x := by
  rw [View.readAt_eq_ld, h.read_unread]
  exact View.ld_unit_zero h0 inb x

/-- A buffer stored whole reads as what was stored. -/
theorem read_stored {s : Shape} {e : EltTy} {κ : Kind} {sp : Space} (m : Memref sig κ sp s e) (f : m.view.ty.Contents (Elt F))
    {off : Fin s.rank → ℕ} (inb : ∀ a, off a + s.size a ≤ s.size a) (w : Vec F s e) :
    View.read (Elt F) m.view (m.view.writes (Elt F) f [⟨Rect.unit (s := s) off s.size inb, w⟩]) = w := by
  funext y
  exact View.read_writes_cons_unit_of_mem (off' := off) m.view f inb w [] y y rfl (fun a => by have := inb a; omega)

theorem zero₂ : (![0, 0] : Fin 2 → ℕ) = fun _ => 0 := by funext a; fin_cases a <;> rfl

/-- One point: the windows are read, the narrow weights end at `filled`, and the output's block is the row tile times them. -/
theorem step_run (c : Dev nD) (i : grid0.Coords) (hx : copies i → ¬ shifts i)
    (arg2 : Memref sig .tc .vmem S1024x4096 .bf16) (harg2 : arg2.IsWhole) (arg3 : Memref sig .tc .vmem S512x4096 .f32) (harg3 : arg3.IsWhole)
    (arg4 : Memref sig .tc .vmem S128x4096 .f32) (harg4 : arg4.IsWhole) (arg5 : Memref sig .tc .vmem S1024x512 .f32) (harg5 : arg5.IsWhole)
    (arg6 : Memref sig .tc .vmem S512x4096 .bf16) (harg6 : arg6.IsWhole)
    (x2 : Vec F S1024x4096 .bf16) (x3 : Vec F S512x4096 .f32) (x4 : Vec F S128x4096 .f32) (s6 : Vec F S512x4096 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ owns (c : Thread nD τ) arg6 fullShare s6
        ∗ (iprop(owns (c : Thread nD τ) arg2 fullShare x2 ∗ owns (c : Thread nD τ) arg3 fullShare x3 ∗ owns (c : Thread nD τ) arg4 fullShare x4
            ∗ owns (c : Thread nD τ) arg5 fullShare (k0_pay3 x2 (filled i x3 x4 s6)) ∗ owns (c : Thread nD τ) arg6 fullShare (filled i x3 x4 s6)) -∗ K ⟨⟩))
      ⊢ wp frame (wpE (defs₀ (F := F)) Variants.none (c : Thread nD τ) none) Set.univ
          (cc0_inproj (F := F) i arg2 harg2 arg3 harg3 arg4 harg4 arg5 harg5 arg6 harg6) K := by
  simp only [cc0_inproj_eq_skeleton]; unfold cc0_inproj_skel
  unfold owns filled
  iintro ⟨⟨%f2, %h2, H2⟩, ⟨%f3, %h3, H3⟩, ⟨%f4, %h4, H4⟩, ⟨%d5, %f5, -, H5⟩, ⟨%f6, %h6, H6⟩, Hk⟩
  obtain rfl := harg2.eq_unread h2; obtain rfl := harg3.eq_unread h3; obtain rfl := harg4.eq_unread h4; obtain rfl := harg6.eq_unread h6
  have h3 : (copies i ∧ ¬ shifts i) ∨ (¬ copies i ∧ shifts i) ∨ (¬ copies i ∧ ¬ shifts i) := by tauto
  rcases h3 with ⟨hc, hs⟩ | ⟨hc, hs⟩ | ⟨hc, hs⟩
  all_goals
    sl_exec (disch := first | sl_exact hc | sl_exact hs)
    sl_step
    iapply Hk
    isplitl [H2]
    · iexists _; isplitr; swap; · iexact H2
      ipureintro; exact harg2.read_unread _
    isplitl [H3]
    · iexists _; isplitr; swap; · iexact H3
      ipureintro; exact harg3.read_unread _
    isplitl [H4]
    · iexists _; isplitr; swap; · iexact H4
      ipureintro; exact harg4.read_unread _
    isplitl [H5]
    · iexists _; isplitr; swap; · iexact H5
      ipureintro
      rw [read_stored, load_all arg2 harg2 zero₂]
      first | rw [if_pos hc] | rw [if_neg hc, if_pos hs] | rw [if_neg hc, if_neg hs]
      first
        | (unfold step_run.sl.v11 step_run.sl.H6_1; rw [View.readCov_unit_zero arg6.view zero₂ inb_S512x4096_S512x4096_0_0, load_all arg3 harg3 zero₂])
        | (unfold step_run.sl.v11_1 step_run.sl.H6_1_1; rw [View.readCov_unit_zero arg6.view zero₂ inb_S512x4096_S512x4096_0_0, load_all arg3 harg3 zero₂, load_all arg4 harg4 zero₂])
        | rw [load_all arg6 harg6 zero₂]
    · iexists _; isplitr; swap; · iexact H6
      ipureintro
      first | rw [if_pos hc] | rw [if_neg hc, if_pos hs] | rw [if_neg hc, if_neg hs]
      first
        | (unfold step_run.sl.H6_1; rw [read_stored, load_all arg3 harg3 zero₂])
        | (unfold step_run.sl.H6_1_1; rw [read_stored, load_all arg3 harg3 zero₂, load_all arg4 harg4 zero₂])
        | exact harg6.read_unread _

end Cert.Kernel2Ideal.Hand

end
-- ==== Proof.Hand.InFrame.lean ====
/- The in-projection's launch: what the buffer of narrow weights holds between points, what a point may leave in the
   output's block, and the run of the whole program. -/
module

public import proofs.«01_k».proof.Proof.Hand.InRun
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of narrow weights. -/
abbrev sc : Memref sig .tc .vmem S512x4096 .bf16 := Memref.whole cc0_scratch0

/-- A fetch at a point into a window's buffer that held `d`. -/
abbrev got (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The first row tile of a point's column tile. -/
def first (t : Fin cfg0.N) : Fin cfg0.N := ⟨9 * (t.val / 9), by have := t.isLt; omega⟩

/-- The narrow weights of a point's column tile. -/
def Good (c : Dev nD) (t : Fin cfg0.N) (wb : Vec F S512x4096 .bf16) : Prop :=
  ∃ d1 d2, wb = if t.val / 9 < 12 then k0_pay1 (got m c 1 (first t) d1) else k0_pay2 (got m c 1 (first t) d1) (got m c 2 (first t) d2)

/-- What a point may leave in the output's block. -/
def Left (c : Dev nD) (t : Fin cfg0.N) (X : Vec F S1024x512 .f32) : Prop :=
  ∃ d0 wb, Good m c t wb ∧ X = k0_pay3 (got m c 0 t d0) wb

/-- What holds between points: the narrow weights are those of the last point's column tile. -/
def Phi (c : Dev nD) (n : ℕ) : sProp 𝕄 :=
  iprop((∃ d, ⌜∀ t : Fin cfg0.N, t.val + 1 = n → Good m c t d⌝ ∗ owns (c : Thread nD τ) sc fullShare d) ∗ (∃ r, prngReg c r))

theorem PhiA0_eq (c : Dev nD) :
    (Pipeline.ΦA spec0 c : sProp 𝕄) = iprop((∃ d, owns (c : Thread nD τ) sc fullShare d) ∗ (∃ r, prngReg c r)) := by
  unfold Pipeline.ΦA; rw [scopedRest0_eq]; simp only [sc, owns_whole]; try rfl

/-- The inputs' buffers keep what they were given; the output's block is left as `Left` says. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => Left m c t X
    | ⟨_ + 4, h⟩ => absurd h (Nat.not_lt.2 (Nat.le_add_left _ _))
  Φ t := Phi m c t.val
  q w := Pipeline.shareOf spec0 w
  owed _ := 0

theorem defs₀_row (t : Fin cfg0.N) :
    defs₀ (F := F) .tc cfg0.body (cfg0.bodyArgs t (cfg0.slots t)) = bodyAt0 t := by
  unfold defs₀; rw [Defs.onTc_tc]

/-- A point's narrow weights, whether this point has just filled them or an earlier one of its column tile did. -/
theorem good_filled (c : Dev nD) (t : Fin cfg0.N) (x3 : Vec F S512x4096 .f32) (x4 : Vec F S128x4096 .f32) (s6 : Vec F S512x4096 .bf16)
    (h3 : t.val % 9 = 0 → ∃ d, x3 = got m c 1 t d) (h4 : t.val % 9 = 0 → ∃ d, x4 = got m c 2 t d)
    (hs : ∀ u : Fin cfg0.N, u.val + 1 = t.val → Good m c u s6) : Good m c t (filled (grid0.coords t) x3 x4 s6) := by
  unfold filled
  by_cases h9 : t.val % 9 = 0
  · obtain ⟨d1, rfl⟩ := h3 h9
    obtain ⟨d2, rfl⟩ := h4 h9
    have hf : first t = t := by unfold first; ext; show 9 * (t.val / 9) = t.val; omega
    refine ⟨d1, d2, ?_⟩
    rw [hf]
    by_cases hj : t.val / 9 < 12
    · rw [if_pos ((copies_iff t).2 ⟨h9, hj⟩), if_pos hj]
    · rw [if_neg (fun h => hj ((copies_iff t).1 h).2), if_pos ((shifts_iff t).2 ⟨h9, by omega⟩), if_neg hj]
  · rw [if_neg (fun h => h9 ((copies_iff t).1 h).1), if_neg (fun h => h9 ((shifts_iff t).1 h).1)]
    have hlt := t.isLt
    obtain ⟨d1, d2, hd⟩ := hs ⟨t.val - 1, by omega⟩ (show t.val - 1 + 1 = t.val by omega)
    have hq : (t.val - 1) / 9 = t.val / 9 := by omega
    have hf : first ⟨t.val - 1, by omega⟩ = first t := by unfold first; ext; show 9 * ((t.val - 1) / 9) = 9 * (t.val / 9); rw [hq]
    refine ⟨d1, d2, ?_⟩
    rw [hd, hf]
    simp only [hq]

set_option maxHeartbeats 2000000 in
theorem body_obligation (c : Dev nD) : (rdat (F := F) m c).BodyObligation (defs₀ (F := F)) Variants.none () Set.univ := fun t Y hY => by
  obtain ⟨d0, hd0⟩ := (RDat.finds_of_fetch (rdat m c) (fetch0_0 t) _).1 (hY 0)
  have h1 : t.val % 9 = 0 → ∃ d, Y 1 = got m c 1 t d := fun h => (RDat.finds_of_fetch (rdat m c) ((fetch0_1 t).2 h) _).1 (hY 1)
  have h2 : t.val % 9 = 0 → ∃ d, Y 2 = got m c 2 t d := fun h => (RDat.finds_of_fetch (rdat m c) ((fetch0_2 t).2 h) _).1 (hY 2)
  have hx : copies (grid0.coords t) → ¬ shifts (grid0.coords t) := fun h h' => by
    have a := ((copies_iff t).1 h).2
    have b := ((shifts_iff t).1 h').2
    omega
  rw [bigSep_W0, bigSep_W0, defs₀_row]
  show iprop(Phi m c t.val ∗ _ ∗ _) ⊢ wp frame _ _ _ (fun _ => iprop(Phi m c (t.val + 1) ∗ _ ∗ _))
  unfold Phi
  iintro ⟨⟨⟨%s6, %hs, HS⟩, Hg⟩, Ho, H0, H1, H2, H3⟩
  iapply (step_run c (grid0.coords t) hx _ _ _ _ _ _ _ _ _ _ (Y 0) (Y 1) (Y 2) s6)
  isplitl [H0]; · iexact H0
  isplitl [H1]; · iexact H1
  isplitl [H2]; · iexact H2
  isplitl [H3]; · iexists _; iexact H3
  isplitl [HS]; · iexact HS
  iintro ⟨H0, H1, H2, H3, HS⟩
  have hg := good_filled m c t (Y 1) (Y 2) s6 h1 h2 hs
  isplitl [HS Hg]
  · isplitl [HS]
    · iexists _
      isplitr; swap; · iexact HS
      ipureintro
      intro u hu
      have : u = t := Fin.ext (by omega)
      rw [this]; exact hg
    iexact Hg
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr; swap; · iexact H3
  ipureintro
  exact ⟨d0, _, hg, by rw [hd0]; rfl⟩

theorem hin (c : Dev nD) : Pipeline.ΦA spec0 c ⊢ (rdat m c).Φ 0 := by
  show _ ⊢ Phi m c 0
  rw [PhiA0_eq]; unfold Phi
  iintro ⟨⟨%d, H⟩, Hg⟩
  isplitl [H]
  · iexists _
    isplitr; swap; · iexact H
    ipureintro
    intro t ht
    omega
  iexact Hg

theorem hout (c : Dev nD) : (rdat m c).Φ (Fin.last cfg0.N) ⊢ Pipeline.ΦA spec0 c := by
  show Phi m c cfg0.N ⊢ _
  rw [PhiA0_eq]; unfold Phi
  iintro ⟨⟨%d, -, H⟩, Hg⟩
  isplitl [H]
  · iexists _; iexact H
  iexact Hg

set_option backward.isDefEq.respectTransparency.types false in
/-- The launch: every execution ends, the output's blocks as the points may leave them, every counter at zero. -/
theorem run_main : θ_run defs (onTc (τ := τ) (main (F := F))) ⟨m, fun _ => 0, ρ⟩
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := fun _ _ => rfl) (hin := hin m) (hout := hout m)

/-- The arguments end as they began. -/
theorem kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

end Cert.Kernel2Ideal.Hand

end
-- ==== Proof.Hand.InValue.lean ====
/- The in-projection's values at the ideal numbers: each column of the result that the mask keeps is the activations' row
   times the weights' column, the convolution's columns in place and the others past the skipped group. -/
module

public import proofs.«01_k».proof.Proof.Hand.InFrame
public import Idealize.ShloMosaic.Lib.Pipeline.Value
public import Idealize.ShloMosaic.Lib.Pipeline.ValueKit.Geometry
public import Idealize.ShloMosaic.Lib.ValueIdx
public import Idealize.ShloMosaic.Lib.MatmulPlain
public import Idealize.ShloMosaic.PureOps.Ideal.Laws

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Pipeline Idealize.ShloMosaic.ValueIdx
open Idealize.SL.Sem Idealize.ShloMosaic.StableHlo
open scoped BigOperators

section AnyFloat

variable {F : FTy → Type} [FloatOps F] (m : (ℓ : Loc nD τ sig) → Buf (Elt F) ℓ)

/-- The host narrows the activations. -/
theorem V_v0 (c : Dev nD) :
    V m c main_v0 = (truncf .bf16 (m ((c.tc : Thread nD τ).loc main_arg0) : FVec F S9216x4096 .f32) bitsLt_bf16_f32 : FVec F S9216x4096 .bf16) := by
  show StableHlo.after hostOps0 (fun b => m (c, b)) (Proc.tc.devRef main_v0) = _
  after_results

/-- The host turns the weights on their side. -/
theorem V_v2 (c : Dev nD) :
    V m c main_v2 = (transpose S12768x4096 [1, 0] (shapeCast S4096x12768 (m ((c.tc : Thread nD τ).loc main_arg1) : FVec F S1x4096x12768 .f32) shapeCasts_S1x4096x12768_S4096x12768) transposes_S4096x12768_S12768x4096_1_0 : FVec F S12768x4096 .f32) := by
  show StableHlo.after hostOps0 (fun b => m (c, b)) (Proc.tc.devRef main_v2) = _
  after_results; rfl

theorem V_v2_apply (c : Dev nD) (n : Fin 12768) (k : Fin 4096) :
    (V m c main_v2 : FVec F S12768x4096 .f32) (ix2 n k) = (m ((c.tc : Thread nD τ).loc main_arg1) : FVec F S1x4096x12768 .f32) (ix3 0 k n) := by
  rw [V_v2, transpose_apply (k := ix2 k n) (hk := by intro b; fin_cases b <;> rfl)]
  refine shapeCast_apply _ _ _ _ ?_
  show (S1x4096x12768.rowMajor _).val = _
  rewrite [Shape.rowMajor_val_three, Shape.rowMajor_val_two]
  show (0 * 4096 + k.val) * 12768 + n.val = k.val * 12768 + n.val
  omega

theorem index0 : ∀ t : Fin grid0.N, win0_0.index t 0 = t.val % 9 ∧ win0_0.index t 1 = 0 := by decide +kernel
theorem index1 : ∀ t : Fin grid0.N, win0_1.index t 0 = t.val / 9 ∧ win0_1.index t 1 = 0 := by decide +kernel
theorem index2 : ∀ t : Fin grid0.N, (t.val / 9 < 24 → win0_2.index t 0 = 4 * (t.val / 9 + 1)) ∧ win0_2.index t 1 = 0 := by decide +kernel
theorem index3 : ∀ t : Fin grid0.N, win0_3.index t 0 = t.val % 9 ∧ win0_3.index t 1 = t.val / 9 := by decide +kernel
theorem extent0 : ∀ t : Fin grid0.N, ∀ a, win0_0.xsize (grid0.coords t) a = win0_0.size a := by decide +kernel
theorem extent1 : ∀ t : Fin grid0.N, win0_1.xsize (grid0.coords t) 0 = (if t.val / 9 = 24 then 480 else 512) ∧ win0_1.xsize (grid0.coords t) 1 = 4096 := by decide +kernel
theorem extent2 : ∀ t : Fin grid0.N, (t.val / 9 < 24 → win0_2.xsize (grid0.coords t) 0 = 128) ∧ win0_2.xsize (grid0.coords t) 1 = 4096 := by decide +kernel

/-- A row tile of the activations. -/
theorem got0_apply (c : Dev nD) (t : Fin cfg0.N) (d : (cfg0.win 0).block.Idx → Elt F (cfg0.win 0).elt) (r : Fin 1024) (k : Fin 4096)
    (h : t.val % 9 * 1024 + r.val < 9216) :
    (got m c 0 t d : FVec F S1024x4096 .bf16) (ix2 r k) = (V m c main_v0 : FVec F S9216x4096 .bf16) (ix2 ⟨t.val % 9 * 1024 + r.val, h⟩ k) := by
  have hm : (cfg0.win 0).moved (cfg0.grid.coords t) (ix2 r k) = true :=
    ((cfg0.win 0).moved_iff _ _).mpr fun a => by
      show _ < win0_0.xsize (grid0.coords t) a
      rw [extent0 t a]; exact (ix2 (n0 := 1024) (n1 := 4096) r k a).isLt
  unfold got Window.fill
  rw [dif_pos hm]
  unfold iblk
  show (V m c main_v0 : FVec F S9216x4096 .bf16) ((win0_0.rect t).emb _) = _
  refine congrArg _ (funext fun a => Fin.ext ?_)
  refine (Window.rect_emb_val win0_0 t _ a rfl).trans ?_
  match a with
  | ⟨0, _⟩ => show win0_0.index t 0 * 1024 + r.val = _; rw [(index0 t).1]
  | ⟨1, _⟩ => show win0_0.index t 1 * 4096 + k.val = k.val; rw [(index0 t).2]; omega

/-- A column tile of the weights, where the weights have columns. -/
theorem got1_apply (c : Dev nD) (t : Fin cfg0.N) (d : (cfg0.win 1).block.Idx → Elt F (cfg0.win 1).elt) (n : Fin 512) (k : Fin 4096)
    (h : t.val / 9 * 512 + n.val < 12768) :
    (got m c 1 t d : FVec F S512x4096 .f32) (ix2 n k) = (V m c main_v2 : FVec F S12768x4096 .f32) (ix2 ⟨t.val / 9 * 512 + n.val, h⟩ k) := by
  have hm : (cfg0.win 1).moved (cfg0.grid.coords t) (ix2 n k) = true :=
    ((cfg0.win 1).moved_iff _ _).mpr fun a => by
      match a with
      | ⟨0, _⟩ =>
        show n.val < win0_1.xsize (grid0.coords t) 0
        rw [(extent1 t).1]; have := n.isLt; split <;> omega
      | ⟨1, _⟩ =>
        show k.val < win0_1.xsize (grid0.coords t) 1
        rw [(extent1 t).2]; exact k.isLt
  unfold got Window.fill
  rw [dif_pos hm]
  unfold iblk
  show (V m c main_v2 : FVec F S12768x4096 .f32) ((win0_1.rect t).emb _) = _
  refine congrArg _ (funext fun a => Fin.ext ?_)
  refine (Window.rect_emb_val win0_1 t _ a rfl).trans ?_
  match a with
  | ⟨0, _⟩ => show win0_1.index t 0 * 512 + n.val = _; rw [(index1 t).1]
  | ⟨1, _⟩ => show win0_1.index t 1 * 4096 + k.val = k.val; rw [(index1 t).2]; omega

/-- The columns just past a column tile. -/
theorem got2_apply (c : Dev nD) (t : Fin cfg0.N) (ht : t.val / 9 < 24) (d : (cfg0.win 2).block.Idx → Elt F (cfg0.win 2).elt) (n : Fin 128) (k : Fin 4096)
    (h : (t.val / 9 + 1) * 512 + n.val < 12768) :
    (got m c 2 t d : FVec F S128x4096 .f32) (ix2 n k) = (V m c main_v2 : FVec F S12768x4096 .f32) (ix2 ⟨(t.val / 9 + 1) * 512 + n.val, h⟩ k) := by
  have hm : (cfg0.win 2).moved (cfg0.grid.coords t) (ix2 n k) = true :=
    ((cfg0.win 2).moved_iff _ _).mpr fun a => by
      match a with
      | ⟨0, _⟩ =>
        show n.val < win0_2.xsize (grid0.coords t) 0
        rw [(extent2 t).1 ht]; exact n.isLt
      | ⟨1, _⟩ =>
        show k.val < win0_2.xsize (grid0.coords t) 1
        rw [(extent2 t).2]; exact k.isLt
  unfold got Window.fill
  rw [dif_pos hm]
  unfold iblk
  show (V m c main_v2 : FVec F S12768x4096 .f32) ((win0_2.rect t).emb _) = _
  refine congrArg _ (funext fun a => Fin.ext ?_)
  refine (Window.rect_emb_val win0_2 t _ a rfl).trans ?_
  match a with
  | ⟨0, _⟩ => show win0_2.index t 0 * 128 + n.val = (t.val / 9 + 1) * 512 + n.val; rw [(index2 t).1 ht]; omega
  | ⟨1, _⟩ => show win0_2.index t 1 * 4096 + k.val = k.val; rw [(index2 t).2]; omega

end AnyFloat

variable (m : (ℓ : Loc nD τ sig) → Buf (Elt Ideal) ℓ)

/-- The activations, and the weights. -/
abbrev act (c : Dev nD) : FVec Ideal S9216x4096 .f32 := m ((c.tc : Thread nD τ).loc main_arg0)
abbrev wts (c : Dev nD) : FVec Ideal S1x4096x12768 .f32 := m ((c.tc : Thread nD τ).loc main_arg1)

/-- The weights' column behind a column of the result. -/
def src (n : ℕ) : ℕ := if n < 6144 then n else n + 32

theorem src_lt {n : ℕ} (h : n < 12736) : src n < 12768 := by unfold src; split <;> omega

theorem pay1_apply (x : FVec Ideal S512x4096 .f32) (y : S512x4096.Idx) : k0_pay1 (F := Ideal) x y = x y := by
  unfold k0_pay1
  rw [shapeCast_self, shapeCast_self]
  rfl

/-- The shifted tile: its own columns from the thirty-third on, then the first ones past it. -/
theorem pay2_left (x : FVec Ideal S512x4096 .f32) (z : FVec Ideal S128x4096 .f32) (n : Fin 512) (k : Fin 4096) (h : n.val + 32 < 512) :
    k0_pay2 (F := Ideal) x z (ix2 n k) = x (ix2 ⟨n.val + 32, h⟩ k) := by
  unfold k0_pay2
  rw [shapeCast_self, shapeCast_self, shapeCast_self]
  refine (show _ = (extractStridedSlice S512x4096 ![32, 0] (concatenate S640x4096 0 [⟨S512x4096, x⟩, ⟨S128x4096, z⟩]
    concatenates_S512x4096_S128x4096_S640x4096_d0) slices_S640x4096_o32_0_S512x4096 : FVec Ideal S512x4096 .f32) (ix2 n k) from rfl).trans ?_
  rw [extractStridedSlice_apply (k := (ix2 ⟨n.val + 32, by omega⟩ k : S640x4096.Idx)) (hk := fun a => match a with
    | ⟨0, _⟩ => Nat.add_comm _ _
    | ⟨1, _⟩ => (Nat.zero_add _).symm)]
  exact concatenate_pair_apply_left (t := S640x4096) (s₁ := S512x4096) (s₂ := S128x4096) 0 x z concatenates_S512x4096_S128x4096_S640x4096_d0 _ rfl
    (ix2 ⟨n.val + 32, h⟩ k) (fun b => match b with | ⟨0, _⟩ => rfl | ⟨1, _⟩ => rfl)

theorem pay2_right (x : FVec Ideal S512x4096 .f32) (z : FVec Ideal S128x4096 .f32) (n : Fin 512) (k : Fin 4096) (h : 512 ≤ n.val + 32) :
    k0_pay2 (F := Ideal) x z (ix2 n k) = z (ix2 ⟨n.val + 32 - 512, by have := n.isLt; omega⟩ k) := by
  unfold k0_pay2
  rw [shapeCast_self, shapeCast_self, shapeCast_self]
  refine (show _ = (extractStridedSlice S512x4096 ![32, 0] (concatenate S640x4096 0 [⟨S512x4096, x⟩, ⟨S128x4096, z⟩]
    concatenates_S512x4096_S128x4096_S640x4096_d0) slices_S640x4096_o32_0_S512x4096 : FVec Ideal S512x4096 .f32) (ix2 n k) from rfl).trans ?_
  rw [extractStridedSlice_apply (k := (ix2 ⟨n.val + 32, by have := n.isLt; omega⟩ k : S640x4096.Idx)) (hk := fun a => match a with
    | ⟨0, _⟩ => Nat.add_comm _ _
    | ⟨1, _⟩ => (Nat.zero_add _).symm)]
  exact concatenate_pair_apply_right (t := S640x4096) (s₁ := S512x4096) (s₂ := S128x4096) 0 x z concatenates_S512x4096_S128x4096_S640x4096_d0 _ rfl rfl
    (ix2 ⟨n.val + 32 - 512, by have := n.isLt; omega⟩ k) (fun b hb => match b, hb with
    | ⟨0, _⟩, hb => absurd rfl hb
    | ⟨1, _⟩, _ => rfl) (by show n.val + 32 - 512 + 512 = n.val + 32; omega)

/-- A tile's product, an element: the sum over the contracted positions. -/
theorem pay3_apply (x : FVec Ideal S1024x4096 .bf16) (w : FVec Ideal S512x4096 .bf16) (r : Fin 1024) (n : Fin 512) :
    k0_pay3 (F := Ideal) x w (ix2 r n) = ∑ k : Fin 4096, x (ix2 r k) * w (ix2 n k) := by
  unfold k0_pay3
  rw [shapeCast_self]
  refine (Ideal.matmul_transposedRhs_apply (M := 1024) (K := 4096) (N := 512) none x w (constant S1024x512 .f32 0x00000000#32) r n).trans ?_
  show Ideal.ofBits .f32 0x00000000#32 + _ = _
  rw [Ideal.ofBits_zero_f32, zero_add]

/-- The narrow weights of a column tile, where the result has columns. -/
theorem good_apply (c : Dev nD) (t : Fin cfg0.N) (wb : FVec Ideal S512x4096 .bf16) (hg : Good m c t wb) (n : Fin 512) (k : Fin 4096)
    (h : t.val / 9 * 512 + n.val < 12736) :
    wb (ix2 n k) = wts m c (ix3 0 k ⟨src (t.val / 9 * 512 + n.val), src_lt h⟩) := by
  obtain ⟨d1, d2, rfl⟩ := hg
  have hf : (first t).val / 9 = t.val / 9 := by show 9 * (t.val / 9) / 9 = t.val / 9; omega
  have hn := n.isLt
  by_cases hj : t.val / 9 < 12
  · rw [if_pos hj, pay1_apply, got1_apply m c (first t) d1 n k (by rw [hf]; omega), V_v2_apply]
    refine congrArg (wts m c) (congrArg (ix3 0 k) (Fin.ext ?_))
    show (first t).val / 9 * 512 + n.val = src _
    unfold src; rw [hf, if_pos (by omega)]
  · rw [if_neg hj]
    by_cases hs : n.val + 32 < 512
    · rw [pay2_left _ _ n k hs, got1_apply m c (first t) d1 ⟨n.val + 32, hs⟩ k (by rw [hf]; show _ + (n.val + 32) < _; omega), V_v2_apply]
      refine congrArg (wts m c) (congrArg (ix3 0 k) (Fin.ext ?_))
      show (first t).val / 9 * 512 + (n.val + 32) = src _
      unfold src; rw [hf, if_neg (by omega)]; omega
    · rw [pay2_right _ _ n k (by omega),
        got2_apply m c (first t) (by rw [hf]; omega) d2 ⟨n.val + 32 - 512, by omega⟩ k (by rw [hf]; show _ + (n.val + 32 - 512) < _; omega), V_v2_apply]
      refine congrArg (wts m c) (congrArg (ix3 0 k) (Fin.ext ?_))
      show ((first t).val / 9 + 1) * 512 + (n.val + 32 - 512) = src _
      unfold src; rw [hf, if_neg (by omega)]; omega

/-- The product of the activations' row and the weights' column. -/
def prod (x : FVec Ideal S9216x4096 .f32) (w : FVec Ideal S1x4096x12768 .f32) (r : Fin 9216) (n : Fin 12768) : EReal :=
  ∑ k : Fin 4096, x (ix2 r k) * w (ix3 0 k n)

/-- What a point leaves, an element. -/
theorem left_apply (c : Dev nD) (t : Fin cfg0.N) (X : FVec Ideal S1024x512 .f32) (hX : Left m c t X) (r : Fin 1024) (n : Fin 512)
    (hr : t.val % 9 * 1024 + r.val < 9216) (h : t.val / 9 * 512 + n.val < 12736) :
    X (ix2 r n) = prod (act m c) (wts m c) ⟨t.val % 9 * 1024 + r.val, hr⟩ ⟨src (t.val / 9 * 512 + n.val), src_lt h⟩ := by
  obtain ⟨d0, wb, hg, rfl⟩ := hX
  rw [pay3_apply]
  unfold prod
  refine Finset.sum_congr rfl fun k _ => ?_
  rw [good_apply m c t wb hg n k h, got0_apply m c t d0 r k hr, V_v0]
  rfl

/-- The result, where the mask keeps it. -/
theorem result_apply (c : Dev nD) {r : PUnit × MemSt nD τ sig (Elt Ideal)} (h : Pipeline.RDat.FramePost cfg0 (rdat m) (V m) r)
    (i : S9216x12800.Idx) (hi : (i 1).val < 12736) :
    (r.2.mem ((c.tc : Thread nD τ).loc main_v3) : FVec Ideal S9216x12800 .f32) i = prod (act m c) (wts m c) (i 0) ⟨src (i 1).val, src_lt hi⟩ := by
  obtain ⟨after, hL, hA⟩ := RDat.FramePost.exists_exact h c
  have key : ∀ hi : (i 1).val < 12736, ((rdat m c).withAfter after).arrAt 3 cfg0.N i = prod (act m c) (wts m c) (i 0) ⟨src (i 1).val, src_lt hi⟩ :=
    ((rdat m c).withAfter after).arrAt_forall_of_covers 3
      (fun (i : S9216x12800.Idx) (v : EReal) => ∀ hi : (i 1).val < 12736, v = prod (act m c) (wts m c) (i 0) ⟨src (i 1).val, src_lt hi⟩)
      (by decide +kernel) (fun t hf y => by
        obtain ⟨Y, -, hX⟩ := hL 3 t hf
        replace hX : Left m c t (after 3 t) := hX
        have e0 : ((win0_3.rect t).emb y 0).val = t.val % 9 * 1024 + (y 0).val :=
          (Window.rect_emb_val win0_3 t y 0 rfl).trans (by rw [(index3 t).1]; rfl)
        have e1 : ((win0_3.rect t).emb y 1).val = t.val / 9 * 512 + (y 1).val :=
          (Window.rect_emb_val win0_3 t y 1 rfl).trans (by rw [(index3 t).2]; rfl)
        intro hi
        replace hi : ((win0_3.rect t).emb y 1).val < 12736 := hi
        have h0 : ((win0_3.rect t).emb y 0).val < 9216 := ((win0_3.rect t).emb y 0).isLt
        show (after 3 t : FVec Ideal S1024x512 .f32) ((cfg0.win 3).xinj (cfg0.grid.coords t) y) = prod (act m c) (wts m c) ((win0_3.rect t).emb y 0) ⟨src ((win0_3.rect t).emb y 1).val, _⟩
        refine (congrArg _ (eq_ix2 (n0 := 1024) (n1 := 512) _)).trans ?_
        refine (left_apply m c t _ hX _ _ (by show _ + (y 0).val < _; omega) (by show _ + (y 1).val < _; omega)).trans ?_
        exact congrArg₂ (prod (act m c) (wts m c)) (Fin.ext e0.symm) (Fin.ext (congrArg src e1.symm))) i
  exact (congrFun (hA 3) i).trans (key hi)

end Cert.Kernel2Ideal.Hand

end
-- ==== Proof.Hand.InRef.lean ====
/- The plain projection at an element, and the mask. -/
module

public import proofs.«01_k».proof.Proof.Hand.InValue
public import proofs.«01_k».proof.Proof.Gen.Reference2Ideal.Run
public import proofs.«01_k».proof.Proof.Gen.Reference2Ideal.Read
public import proofs.«01_k».proof.Proof.Gen.On_columns_of_proj

@[expose] public section

set_option maxRecDepth 16384

noncomputable section

namespace Cert.Reference2Ideal.Hand

open Cert.Reference2Ideal Cert.Reference2Ideal.Gen Cert.Reference2Ideal.Read Cert.Kernel2Ideal.Hand
open Idealize.ShloMosaic Idealize.ShloMosaic.TcCoe Idealize.ShloMosaic.ValueIdx Idealize.SL.Sem
open scoped BigOperators

/-- The whole projection, an element. -/
theorem proj_apply (x : FVec Ideal S9216x4096 .f32) (w : FVec Ideal S1x4096x12768 .f32) (r : Fin 9216) (n : Fin 12768) :
    val_main_v1 (F := Ideal) x w (ix2 r n) = prod x w r n := by
  rw [val_main_v1_apply]
  unfold prod
  refine Finset.sum_congr rfl fun k _ => ?_
  rw [val_main_v0_apply]
  have el : lidx_main_v1 (ix2 r n) k = ix2 r k := funext fun a => match a with | ⟨0, _⟩ => rfl | ⟨1, _⟩ => rfl
  have er : idx_main_v0 (ridx_main_v1 (ix2 r n) k) = ix3 0 k n := by
    have hk := k.isLt
    have hn := n.isLt
    funext a
    apply Fin.ext
    match a with
    | ⟨0, _⟩ => rfl
    | ⟨1, _⟩ => show (k.val * 12768 + n.val) / 12768 % 4096 = k.val; omega
    | ⟨2, _⟩ => show (k.val * 12768 + n.val) % 12768 = n.val; omega
  rw [el, er]

set_option maxRecDepth 100000 in
/-- The reference's result on the kept columns. -/
theorem ref_apply (x : FVec Ideal S9216x4096 .f32) (w : FVec Ideal S1x4096x12768 .f32) (i : S9216x12800.Idx) (hi : (i 1).val < 12736) :
    val_main_v6 (F := Ideal) x w i = prod x w (i 0) ⟨src (i 1).val, src_lt hi⟩ := by
  unfold val_main_v6
  rw [concatenate_pair_apply_left (t := S9216x12800) (s₁ := S9216x12736) (s₂ := S9216x64) 1 (val_main_v4 (F := Ideal) x w) (val_main_v5 (F := Ideal))
    concatenates_S9216x12736_S9216x64_S9216x12800_d1 i rfl (ix2 (i 0) ⟨(i 1).val, hi⟩) (fun b => match b with | ⟨0, _⟩ => rfl | ⟨1, _⟩ => rfl)]
  unfold val_main_v4
  by_cases h : (i 1).val < 6144
  · rw [concatenate_pair_apply_left (t := S9216x12736) (s₁ := S9216x6144) (s₂ := S9216x6592) 1 (val_main_v2 (F := Ideal) x w) (val_main_v3 (F := Ideal) x w)
      concatenates_S9216x6144_S9216x6592_S9216x12736_d1 _ rfl (ix2 (i 0) ⟨(i 1).val, h⟩) (fun b => match b with | ⟨0, _⟩ => rfl | ⟨1, _⟩ => rfl),
      val_main_v2_apply]
    refine Eq.trans (congrArg _ (?_ : _ = ix2 (i 0) ⟨src (i 1).val, src_lt hi⟩)) (proj_apply x w _ _)
    funext a
    apply Fin.ext
    match a with
    | ⟨0, _⟩ => rfl
    | ⟨1, _⟩ => show (i 1).val = src (i 1).val; unfold src; rw [if_pos h]
  · have hj : (i 1).val - 6144 < 6592 := by omega
    have e := concatenate_pair_apply_right (t := S9216x12736) (s₁ := S9216x6144) (s₂ := S9216x6592) 1 (val_main_v2 (F := Ideal) x w)
      (val_main_v3 (F := Ideal) x w) concatenates_S9216x6144_S9216x6592_S9216x12736_d1 (ix2 (i 0) ⟨(i 1).val, hi⟩) rfl rfl
      (ix2 (i 0) ⟨(i 1).val - 6144, hj⟩) (fun b hb => match b, hb with
      | ⟨0, _⟩, _ => rfl
      | ⟨1, _⟩, hb => absurd rfl hb) (Nat.sub_add_cancel (Nat.le_of_not_lt h))
    rw [e, val_main_v3_apply]
    refine Eq.trans (congrArg _ (?_ : _ = ix2 (i 0) ⟨src (i 1).val, src_lt hi⟩)) (proj_apply x w _ _)
    funext a
    apply Fin.ext
    match a with
    | ⟨0, _⟩ => rfl
    | ⟨1, _⟩ => show 6176 + ((i 1).val - 6144) = src (i 1).val; unfold src; rw [if_neg h]; omega

end Cert.Reference2Ideal.Hand

namespace Cert.On_columns_of_proj

open Idealize.ShloMosaic

variable {F : FTy → Type} [FloatOps F] [Facts]

/-- The mask keeps the columns below 12736. -/
theorem fn_apply (x : FVec F S9216x4096 .f32) (w : FVec F S1x4096x12768 .f32) (i : S9216x12800.Idx) (h : fn x w i = 1#1) : (i 1).val < 12736 := by
  have key : ∀ n : Fin 12800, IntOp.cmpi .slt (BitVec.ofNat 32 n.val) 12736#32 = 1#1 → n.val < 12736 := by decide +kernel
  exact key (i 1) h

end Cert.On_columns_of_proj

end
-- ==== Proof.Hand.OutValue.lean ====
/- The out-projection's values at the ideal numbers: each row of the result is the old row plus its sequence's gate times
   the row of the mixers' outputs times the weights' column, the two mixers' halves of the weights apart. -/
module

public import proofs.«01_k».proof.Proof.Gen.Kernel3Ideal.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.ValueIdx
public import Idealize.ShloMosaic.Lib.MatmulPlain
public import Idealize.ShloMosaic.PureOps.Ideal.Laws

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Pipeline Idealize.ShloMosaic.ValueIdx
open Idealize.SL.Sem Idealize.ShloMosaic.StableHlo
open scoped BigOperators

/-! ## The result's formula -/

/-- A row's sequence: four prompts of 2048 rows, then samples of 64. -/
def seqOf (r : ℕ) : ℕ := if r < 8192 then r / 2048 else 4 + (r - 8192) / 64

theorem seqOf_lt {r : ℕ} (h : r < 9216) : seqOf r < 20 := by unfold seqOf; split <;> omega

/-- The row of the residual stream that a row is added to. -/
def old (xp : FVec Ideal S4x2048x4096 .f32) (xs : FVec Ideal S16x64x4096 .f32) (r : Fin 9216) (n : Fin 4096) : EReal :=
  if h : r.val < 8192 then xp (ix3 ⟨r.val / 2048, by omega⟩ ⟨r.val % 2048, by omega⟩ n)
  else xs (ix3 ⟨(r.val - 8192) / 64, by omega⟩ ⟨(r.val - 8192) % 64, by omega⟩ n)

/-- The projection of a row: each mixer's outputs against its half of the weights. -/
def both (ym yr : FVec Ideal S9216x2048 .f32) (w : FVec Ideal S1x4096x4096 .f32) (r : Fin 9216) (n : Fin 4096) : EReal :=
  (∑ k : Fin 2048, ym (ix2 r k) * w (ix3 0 ⟨k.val, by omega⟩ n)) + ∑ k : Fin 2048, yr (ix2 r k) * w (ix3 0 ⟨2048 + k.val, by omega⟩ n)

/-- The result. -/
def res (ym yr : FVec Ideal S9216x2048 .f32) (w : FVec Ideal S1x4096x4096 .f32) (xp : FVec Ideal S4x2048x4096 .f32)
    (xs : FVec Ideal S16x64x4096 .f32) (g : FVec Ideal S20x4096 .f32) (r : Fin 9216) (n : Fin 4096) : EReal :=
  old xp xs r n + g (ix2 ⟨seqOf r.val, seqOf_lt r.isLt⟩ n) * both ym yr w r n

/-! ## The blocks a point reads -/

section AnyFloat

variable {F : FTy → Type} [FloatOps F] (m : (ℓ : Loc nD τ sig) → Buf (Elt F) ℓ)

theorem V_v2 (c : Dev nD) :
    V m c main_v2 = (truncf .bf16 (m ((c.tc : Thread nD τ).loc main_arg0) : FVec F S9216x2048 .f32) bitsLt_bf16_f32 : FVec F S9216x2048 .bf16) := by
  show StableHlo.after hostOps0 (fun b => m (c, b)) (Proc.tc.devRef main_v2) = _
  after_results

theorem V_v3 (c : Dev nD) :
    V m c main_v3 = (truncf .bf16 (m ((c.tc : Thread nD τ).loc main_arg1) : FVec F S9216x2048 .f32) bitsLt_bf16_f32 : FVec F S9216x2048 .bf16) := by
  show StableHlo.after hostOps0 (fun b => m (c, b)) (Proc.tc.devRef main_v3) = _
  after_results

/-- The weights, narrowed. -/
abbrev narrow (c : Dev nD) : FVec F S4096x4096 .bf16 :=
  truncf .bf16 (shapeCast S4096x4096 (m ((c.tc : Thread nD τ).loc main_arg2) : FVec F S1x4096x4096 .f32) shapeCasts_S1x4096x4096_S4096x4096 : FVec F S4096x4096 .f32) bitsLt_bf16_f32

theorem V_v4 (c : Dev nD) :
    V m c main_v4 = (extractStridedSlice S2048x4096 ![0, 0] (narrow m c) slices_S4096x4096_S2048x4096_0_0 : FVec F S2048x4096 .bf16) := by
  show StableHlo.after hostOps0 (fun b => m (c, b)) (Proc.tc.devRef main_v4) = _
  after_results; rfl

theorem V_v5 (c : Dev nD) :
    V m c main_v5 = (extractStridedSlice S2048x4096 ![2048, 0] (narrow m c) slices_S4096x4096_S2048x4096_2048_0 : FVec F S2048x4096 .bf16) := by
  show StableHlo.after hostOps0 (fun b => m (c, b)) (Proc.tc.devRef main_v5) = _
  after_results; rfl

theorem V_v6 (c : Dev nD) :
    V m c main_v6 = (shapeCast S8192x4096 (m ((c.tc : Thread nD τ).loc main_arg3) : FVec F S4x2048x4096 .f32) shapeCasts_S4x2048x4096_S8192x4096 : FVec F S8192x4096 .f32) := by
  show StableHlo.after hostOps0 (fun b => m (c, b)) (Proc.tc.devRef main_v6) = _
  after_results; rfl

theorem V_v7 (c : Dev nD) :
    V m c main_v7 = (shapeCast S1024x4096 (m ((c.tc : Thread nD τ).loc main_arg4) : FVec F S16x64x4096 .f32) shapeCasts_S16x64x4096_S1024x4096 : FVec F S1024x4096 .f32) := by
  show StableHlo.after hostOps0 (fun b => m (c, b)) (Proc.tc.devRef main_v7) = _
  after_results; rfl

theorem index0 : ∀ t : Fin grid0.N, win0_0.index t 0 = t.val / 4 ∧ win0_0.index t 1 = 0 := by decide +kernel
theorem index1 : ∀ t : Fin grid0.N, win0_1.index t 0 = t.val / 4 ∧ win0_1.index t 1 = 0 := by decide +kernel
theorem index2 : ∀ t : Fin grid0.N, win0_2.index t 0 = 0 ∧ win0_2.index t 1 = t.val % 4 := by decide +kernel
theorem index3 : ∀ t : Fin grid0.N, win0_3.index t 0 = 0 ∧ win0_3.index t 1 = t.val % 4 := by decide +kernel
theorem index4 : ∀ t : Fin grid0.N, t.val < 64 → win0_4.index t 0 = t.val / 4 ∧ win0_4.index t 1 = t.val % 4 := by decide +kernel
theorem index5 : ∀ t : Fin grid0.N, 64 ≤ t.val → win0_5.index t 0 = t.val / 4 - 16 ∧ win0_5.index t 1 = t.val % 4 := by decide +kernel
theorem index6 : ∀ t : Fin grid0.N, win0_6.index t 0 = 0 ∧ win0_6.index t 1 = t.val % 4 := by decide +kernel
theorem index7 : ∀ t : Fin grid0.N, win0_7.index t 0 = t.val / 4 ∧ win0_7.index t 1 = t.val % 4 := by decide +kernel

/-- The gate's row of each 64 rows of a point. -/
theorem gate1 : ∀ t : Fin grid0.N, t.val < 64 → ∀ q : Fin 8,
    k0_off1 (grid0.coords t) (BitVec.ofNat 32 q.val) 0 = seqOf (t.val / 4 * 512 + 64 * q.val) ∧ k0_off1 (grid0.coords t) (BitVec.ofNat 32 q.val) 1 = 0 := by
  decide +kernel
theorem gate2 : ∀ t : Fin grid0.N, 64 ≤ t.val → ∀ q : Fin 8,
    k0_off2 (grid0.coords t) (BitVec.ofNat 32 q.val) 0 = seqOf (t.val / 4 * 512 + 64 * q.val) ∧ k0_off2 (grid0.coords t) (BitVec.ofNat 32 q.val) 1 = 0 := by
  decide +kernel

theorem rows_lt (t : Fin cfg0.N) (r : Fin 512) : t.val / 4 * 512 + r.val < 9216 := by
  have : t.val < 72 := lt_of_lt_of_eq t.isLt N_0
  omega

theorem cols_lt (t : Fin cfg0.N) (n : Fin 1024) : t.val % 4 * 1024 + n.val < 4096 := by omega

theorem blk0_apply (c : Dev nD) (t : Fin cfg0.N) (r : Fin 512) (k : Fin 2048) :
    (iblk m c 0 t : FVec F S512x2048 .bf16) (ix2 r k) = (V m c main_v2 : FVec F S9216x2048 .bf16) (ix2 ⟨t.val / 4 * 512 + r.val, rows_lt t r⟩ k) := by
  unfold iblk
  show (V m c main_v2 : FVec F S9216x2048 .bf16) ((win0_0.rect t).emb _) = _
  refine congrArg _ (funext fun a => Fin.ext ?_)
  refine (Window.rect_emb_val win0_0 t _ a rfl).trans ?_
  match a with
  | ⟨0, _⟩ => show win0_0.index t 0 * 512 + r.val = _; rw [(index0 t).1]
  | ⟨1, _⟩ => show win0_0.index t 1 * 2048 + k.val = k.val; rw [(index0 t).2]; omega

theorem blk1_apply (c : Dev nD) (t : Fin cfg0.N) (r : Fin 512) (k : Fin 2048) :
    (iblk m c 1 t : FVec F S512x2048 .bf16) (ix2 r k) = (V m c main_v3 : FVec F S9216x2048 .bf16) (ix2 ⟨t.val / 4 * 512 + r.val, rows_lt t r⟩ k) := by
  unfold iblk
  show (V m c main_v3 : FVec F S9216x2048 .bf16) ((win0_1.rect t).emb _) = _
  refine congrArg _ (funext fun a => Fin.ext ?_)
  refine (Window.rect_emb_val win0_1 t _ a rfl).trans ?_
  match a with
  | ⟨0, _⟩ => show win0_1.index t 0 * 512 + r.val = _; rw [(index1 t).1]
  | ⟨1, _⟩ => show win0_1.index t 1 * 2048 + k.val = k.val; rw [(index1 t).2]; omega

theorem narrow_apply (c : Dev nD) (k n : Fin 4096) :
    narrow m c (ix2 k n) = FloatOps.truncf .bf16 bitsLt_bf16_f32 ((m ((c.tc : Thread nD τ).loc main_arg2) : FVec F S1x4096x4096 .f32) (ix3 0 k n)) := by
  show FloatOps.truncf .bf16 bitsLt_bf16_f32 (shapeCast S4096x4096 _ _ (ix2 k n)) = _
  refine congrArg _ (shapeCast_apply _ _ _ _ ?_)
  show (S1x4096x4096.rowMajor _).val = _
  rewrite [Shape.rowMajor_val_three, Shape.rowMajor_val_two]
  show (0 * 4096 + k.val) * 4096 + n.val = k.val * 4096 + n.val
  omega

theorem blk2_apply (c : Dev nD) (t : Fin cfg0.N) (k : Fin 2048) (n : Fin 1024) :
    (iblk m c 2 t : FVec F S2048x1024 .bf16) (ix2 k n) = narrow m c (ix2 ⟨k.val, by omega⟩ ⟨t.val % 4 * 1024 + n.val, cols_lt t n⟩) := by
  unfold iblk
  show (V m c main_v4 : FVec F S2048x4096 .bf16) ((win0_2.rect t).emb _) = _
  rw [V_v4]
  refine extractStridedSlice_apply _ _ _ _ _ fun a => ?_
  match a with
  | ⟨0, _⟩ =>
    refine Eq.trans ?_ (congrArg (0 + ·) (Window.rect_emb_val win0_2 t (ix2 k n) 0 rfl).symm)
    show k.val = 0 + (win0_2.index t 0 * 2048 + k.val); rw [(index2 t).1]; omega
  | ⟨1, _⟩ =>
    refine Eq.trans ?_ (congrArg (0 + ·) (Window.rect_emb_val win0_2 t (ix2 k n) 1 rfl).symm)
    show _ = 0 + (win0_2.index t 1 * 1024 + n.val); rw [(index2 t).2, Nat.zero_add]

theorem blk3_apply (c : Dev nD) (t : Fin cfg0.N) (k : Fin 2048) (n : Fin 1024) :
    (iblk m c 3 t : FVec F S2048x1024 .bf16) (ix2 k n) = narrow m c (ix2 ⟨2048 + k.val, by omega⟩ ⟨t.val % 4 * 1024 + n.val, cols_lt t n⟩) := by
  unfold iblk
  show (V m c main_v5 : FVec F S2048x4096 .bf16) ((win0_3.rect t).emb _) = _
  rw [V_v5]
  refine extractStridedSlice_apply _ _ _ _ _ fun a => ?_
  match a with
  | ⟨0, _⟩ =>
    refine Eq.trans ?_ (congrArg (2048 + ·) (Window.rect_emb_val win0_3 t (ix2 k n) 0 rfl).symm)
    show 2048 + k.val = 2048 + (win0_3.index t 0 * 2048 + k.val); rw [(index3 t).1]; omega
  | ⟨1, _⟩ =>
    refine Eq.trans ?_ (congrArg (0 + ·) (Window.rect_emb_val win0_3 t (ix2 k n) 1 rfl).symm)
    show _ = 0 + (win0_3.index t 1 * 1024 + n.val); rw [(index3 t).2, Nat.zero_add]

theorem blk4_apply (c : Dev nD) (t : Fin cfg0.N) (ht : t.val < 64) (r : Fin 512) (n : Fin 1024) :
    (iblk m c 4 t : FVec F S512x1024 .f32) (ix2 r n) = (m ((c.tc : Thread nD τ).loc main_arg3) : FVec F S4x2048x4096 .f32)
      (ix3 ⟨(t.val / 4 * 512 + r.val) / 2048, by omega⟩ ⟨(t.val / 4 * 512 + r.val) % 2048, by omega⟩ ⟨t.val % 4 * 1024 + n.val, cols_lt t n⟩) := by
  unfold iblk
  show (V m c main_v6 : FVec F S8192x4096 .f32) ((win0_4.rect t).emb _) = _
  rw [V_v6]
  have e0 : ((win0_4.rect t).emb (ix2 r n) 0).val = t.val / 4 * 512 + r.val :=
    (Window.rect_emb_val win0_4 t (ix2 r n) 0 rfl).trans (by rw [(index4 t ht).1]; rfl)
  have e1 : ((win0_4.rect t).emb (ix2 r n) 1).val = t.val % 4 * 1024 + n.val :=
    (Window.rect_emb_val win0_4 t (ix2 r n) 1 rfl).trans (by rw [(index4 t ht).2]; rfl)
  refine shapeCast_apply _ _ _ _ ?_
  show (S4x2048x4096.rowMajor _).val = (S8192x4096.rowMajor _).val
  rewrite [Shape.rowMajor_val_three, Shape.rowMajor_val_two, e0, e1]
  show ((t.val / 4 * 512 + r.val) / 2048 * 2048 + (t.val / 4 * 512 + r.val) % 2048) * 4096 + (t.val % 4 * 1024 + n.val) = (t.val / 4 * 512 + r.val) * 4096 + (t.val % 4 * 1024 + n.val)
  rw [Nat.div_add_mod']

theorem blk5_apply (c : Dev nD) (t : Fin cfg0.N) (ht : 64 ≤ t.val) (r : Fin 512) (n : Fin 1024) :
    (iblk m c 5 t : FVec F S512x1024 .f32) (ix2 r n) = (m ((c.tc : Thread nD τ).loc main_arg4) : FVec F S16x64x4096 .f32)
      (ix3 ⟨(t.val / 4 * 512 + r.val - 8192) / 64, by have := rows_lt t r; omega⟩ ⟨(t.val / 4 * 512 + r.val - 8192) % 64, by omega⟩ ⟨t.val % 4 * 1024 + n.val, cols_lt t n⟩) := by
  unfold iblk
  show (V m c main_v7 : FVec F S1024x4096 .f32) ((win0_5.rect t).emb _) = _
  rw [V_v7]
  have e0 : ((win0_5.rect t).emb (ix2 r n) 0).val = t.val / 4 * 512 + r.val - 8192 :=
    (Window.rect_emb_val win0_5 t (ix2 r n) 0 rfl).trans (by rw [(index5 t ht).1]; show (t.val / 4 - 16) * 512 + r.val = _; omega)
  have e1 : ((win0_5.rect t).emb (ix2 r n) 1).val = t.val % 4 * 1024 + n.val :=
    (Window.rect_emb_val win0_5 t (ix2 r n) 1 rfl).trans (by rw [(index5 t ht).2]; rfl)
  refine shapeCast_apply _ _ _ _ ?_
  show (S16x64x4096.rowMajor _).val = (S1024x4096.rowMajor _).val
  rewrite [Shape.rowMajor_val_three, Shape.rowMajor_val_two, e0, e1]
  show ((t.val / 4 * 512 + r.val - 8192) / 64 * 64 + (t.val / 4 * 512 + r.val - 8192) % 64) * 4096 + (t.val % 4 * 1024 + n.val) = (t.val / 4 * 512 + r.val - 8192) * 4096 + (t.val % 4 * 1024 + n.val)
  rw [Nat.div_add_mod']

theorem blk6_apply (c : Dev nD) (t : Fin cfg0.N) (s : Fin 20) (n : Fin 1024) :
    (iblk m c 6 t : FVec F S20x1024 .f32) (ix2 s n) = (m ((c.tc : Thread nD τ).loc main_arg5) : FVec F S20x4096 .f32) (ix2 s ⟨t.val % 4 * 1024 + n.val, cols_lt t n⟩) := by
  unfold iblk
  show (V m c main_arg5 : FVec F S20x4096 .f32) ((win0_6.rect t).emb _) = _
  rw [V_main_arg5]
  refine congrArg _ (funext fun a => Fin.ext ?_)
  refine (Window.rect_emb_val win0_6 t _ a rfl).trans ?_
  match a with
  | ⟨0, _⟩ => show win0_6.index t 0 * 20 + s.val = s.val; rw [(index6 t).1]; omega
  | ⟨1, _⟩ => show win0_6.index t 1 * 1024 + n.val = _; rw [(index6 t).2]

/-! ## What a point leaves -/

/-- Sixty-four rows of a point: the old rows plus the gate's row times the product's rows. -/
theorem rows_apply (A x : FVec F S512x1024 .f32) (g : FVec F S20x1024 .f32) (o : ℕ) (off : Fin 2 → ℕ) (s : Fin 20)
    (hs : S512x1024.Slices ![o, 0] S64x1024) (ib) (ig) (hc : S64x1024.ShapeCasts S64x1024) (hb : S1x1024.Broadcasts S64x1024)
    (h0 : off 0 = s.val) (h1 : off 1 = 0) (y : S512x1024.Idx) (z : S64x1024.Idx) (e0 : (y 0).val = o + (z 0).val) (e1 : (y 1).val = (z 1).val) :
    (addf (shapeCast S64x1024 (View.ld (Val := Elt F) (e' := .f32) x (Rect.unit (s := S512x1024) ![o, 0] ![64, 1024] ib) : FVec F S64x1024 .f32) hc)
      (mulf (broadcastTo S64x1024 (View.ld (Val := Elt F) (e' := .f32) g (Rect.unit (s := S20x1024) off ![1, 1024] ig) : FVec F S1x1024 .f32) hb)
        (extractStridedSlice S64x1024 ![o, 0] A hs)) : FVec F S64x1024 .f32) z
      = FloatOps.addf (x y) (FloatOps.mulf (g (ix2 s (y 1))) (A y)) := by
  have ex : shapeCast S64x1024 (View.ld (Val := Elt F) (e' := .f32) x (Rect.unit (s := S512x1024) ![o, 0] ![64, 1024] ib) : FVec F S64x1024 .f32) hc z = x y := by
    refine (shapeCast_apply _ hc z z rfl).trans ?_
    exact View.ld_unit_apply_of (Val := Elt F) (e := .f32) x _ _ ib z y fun a => match a with
      | ⟨0, _⟩ => e0
      | ⟨1, _⟩ => e1.trans (Nat.zero_add _).symm
  have eg : broadcastTo S64x1024 (View.ld (Val := Elt F) (e' := .f32) g (Rect.unit (s := S20x1024) off ![1, 1024] ig) : FVec F S1x1024 .f32) hb z = g (ix2 s (y 1)) := by
    refine (broadcastTo_apply _ hb z (ix2 0 (z 1)) fun a => match a with
      | ⟨0, _⟩ => rfl
      | ⟨1, _⟩ => rfl).trans ?_
    exact View.ld_unit_apply_of (Val := Elt F) (e := .f32) g _ _ ig (ix2 0 (z 1)) (ix2 s (y 1)) fun a => match a with
      | ⟨0, _⟩ => h0.symm
      | ⟨1, _⟩ => e1.trans (by show (z 1).val = off 1 + (z 1).val; rw [h1, Nat.zero_add])
  have eA : extractStridedSlice S64x1024 ![o, 0] A hs z = A y :=
    extractStridedSlice_apply _ _ hs z y fun a => match a with
      | ⟨0, _⟩ => e0
      | ⟨1, _⟩ => e1.trans (Nat.zero_add _).symm
  show FloatOps.addf _ (FloatOps.mulf _ _) = _
  rw [ex, eg, eA]

/-- The sequence of a row of a point. -/
def seqAt (t : Fin cfg0.N) (r : Fin 512) : Fin 20 := ⟨seqOf (t.val / 4 * 512 + r.val), seqOf_lt (rows_lt t r)⟩

/-- The sequence of a row is that of the first of its 64. -/
theorem seqAt_val (t : Fin cfg0.N) (q : ℕ) (r : Fin 512) (z : ℕ) (hz : z < 64) (e : r.val = 64 * q + z) :
    seqOf (t.val / 4 * 512 + 64 * q) = (seqAt t r).val := by
  have key : ∀ a : ℕ, seqOf (a * 512 + 64 * q) = seqOf (a * 512 + (64 * q + z)) := fun a => by
    unfold seqOf; split <;> split <;> omega
  exact (key _).trans (congrArg (fun n => seqOf (t.val / 4 * 512 + n)) e.symm)

theorem gate1_row (t : Fin cfg0.N) (ht : t.val < 64) (q : ℕ) (hq : q < 8) (r : Fin 512) (z : ℕ) (hz : z < 64) (e : r.val = 64 * q + z) :
    k0_off1 (grid0.coords t) (BitVec.ofNat 32 q) 0 = (seqAt t r).val :=
  (gate1 t ht ⟨q, hq⟩).1.trans (seqAt_val t q r z hz e)
theorem gate2_row (t : Fin cfg0.N) (ht : 64 ≤ t.val) (q : ℕ) (hq : q < 8) (r : Fin 512) (z : ℕ) (hz : z < 64) (e : r.val = 64 * q + z) :
    k0_off2 (grid0.coords t) (BitVec.ofNat 32 q) 0 = (seqAt t r).val :=
  (gate2 t ht ⟨q, hq⟩).1.trans (seqAt_val t q r z hz e)

theorem gate1_col (t : Fin cfg0.N) (ht : t.val < 64) (q : ℕ) (hq : q < 8) : k0_off1 (grid0.coords t) (BitVec.ofNat 32 q) 1 = 0 := (gate1 t ht ⟨q, hq⟩).2
theorem gate2_col (t : Fin cfg0.N) (ht : 64 ≤ t.val) (q : ℕ) (hq : q < 8) : k0_off2 (grid0.coords t) (BitVec.ofNat 32 q) 1 = 0 := (gate2 t ht ⟨q, hq⟩).2

/-- A product tile of a point. -/
abbrev tile (c : Dev nD) (t : Fin cfg0.N) : FVec F S512x1024 .f32 := k0_pay1 (iblk m c 0 t) (iblk m c 2 t) (iblk m c 1 t) (iblk m c 3 t)

set_option maxHeartbeats 2000000 in
/-- What a point of the prompts leaves. -/
theorem left_prompt (c : Dev nD) (t : Fin cfg0.N) (ht : t.val < 64) (y : S512x1024.Idx) :
    outsAt0 m c t.val t.isLt y = FloatOps.addf ((iblk m c 4 t : FVec F S512x1024 .f32) y)
      (FloatOps.mulf ((iblk m c 6 t : FVec F S20x1024 .f32) (ix2 (seqAt t (y 0)) (y 1))) (tile m c t y)) := by
  rw [outsAt0_A m c t ht (by omega)]
  frame_out
  canon_tiles z h
  all_goals
    exact rows_apply (tile m c t) (iblk m c 4 t) (iblk m c 6 t) _ _ (seqAt t (y 0)) _ _ _ _ _
      (gate1_row t ht _ (by decide) (y 0) _ z0_lt (by omega)) (gate1_col t ht _ (by decide)) y z (by omega) h1

set_option maxHeartbeats 2000000 in
/-- What a point of the samples leaves. -/
theorem left_sample (c : Dev nD) (t : Fin cfg0.N) (ht : 64 ≤ t.val) (y : S512x1024.Idx) :
    outsAt0 m c t.val t.isLt y = FloatOps.addf ((iblk m c 5 t : FVec F S512x1024 .f32) y)
      (FloatOps.mulf ((iblk m c 6 t : FVec F S20x1024 .f32) (ix2 (seqAt t (y 0)) (y 1))) (tile m c t y)) := by
  rw [outsAt0_B m c t (by omega) ht]
  frame_out
  canon_tiles z h
  all_goals
    exact rows_apply (tile m c t) (iblk m c 5 t) (iblk m c 6 t) _ _ (seqAt t (y 0)) _ _ _ _ _
      (gate2_row t ht _ (by decide) (y 0) _ z0_lt (by omega)) (gate2_col t ht _ (by decide)) y z (by omega) h1

end AnyFloat

variable (m : (ℓ : Loc nD τ sig) → Buf (Elt Ideal) ℓ)

abbrev outM (c : Dev nD) : FVec Ideal S9216x2048 .f32 := m ((c.tc : Thread nD τ).loc main_arg0)
abbrev outR (c : Dev nD) : FVec Ideal S9216x2048 .f32 := m ((c.tc : Thread nD τ).loc main_arg1)
abbrev wts (c : Dev nD) : FVec Ideal S1x4096x4096 .f32 := m ((c.tc : Thread nD τ).loc main_arg2)
abbrev prompts (c : Dev nD) : FVec Ideal S4x2048x4096 .f32 := m ((c.tc : Thread nD τ).loc main_arg3)
abbrev samples (c : Dev nD) : FVec Ideal S16x64x4096 .f32 := m ((c.tc : Thread nD τ).loc main_arg4)
abbrev gates (c : Dev nD) : FVec Ideal S20x4096 .f32 := m ((c.tc : Thread nD τ).loc main_arg5)

/-- The formula at a core's arguments. -/
abbrev resOf (c : Dev nD) : Fin 9216 → Fin 4096 → EReal := res (outM m c) (outR m c) (wts m c) (prompts m c) (samples m c) (gates m c)

/-- A product tile, an element. -/
theorem tile_apply (c : Dev nD) (t : Fin cfg0.N) (r : Fin 512) (n : Fin 1024) :
    tile m c t (ix2 r n) = both (outM m c) (outR m c) (wts m c) ⟨t.val / 4 * 512 + r.val, rows_lt t r⟩ ⟨t.val % 4 * 1024 + n.val, cols_lt t n⟩ := by
  have half : ∀ (x : FVec Ideal S512x2048 .bf16) (w : FVec Ideal S2048x1024 .bf16),
      matmul dot_S512x2048_S2048x1024_S512x1024_1_0_0_1_n_n none x w (constant S512x1024 .f32 0x00000000#32) (ix2 r n)
        = ∑ k : Fin 2048, x (ix2 r k) * w (ix2 k n) := fun x w => by
    refine (Ideal.matmul_plain_apply (M := 512) (K := 2048) (N := 1024) none x w (constant S512x1024 .f32 0x00000000#32) r n).trans ?_
    show Ideal.ofBits .f32 0x00000000#32 + _ = _
    rw [Ideal.ofBits_zero_f32, zero_add]
  unfold tile k0_pay1
  rw [shapeCast_self, shapeCast_self, shapeCast_self, shapeCast_self]
  refine (congrArg₂ (· + ·) (half _ _) (half _ _)).trans ?_
  unfold both
  refine congrArg₂ (· + ·) (Finset.sum_congr rfl fun k _ => ?_) (Finset.sum_congr rfl fun k _ => ?_)
  · rw [blk0_apply, blk2_apply, narrow_apply, V_v2]; rfl
  · rw [blk1_apply, blk3_apply, narrow_apply, V_v3]; rfl

/-- What a point leaves, an element. -/
theorem left_apply (c : Dev nD) (t : Fin cfg0.N) (r : Fin 512) (n : Fin 1024) :
    outsAt0 m c t.val t.isLt (ix2 r n) = resOf m c ⟨t.val / 4 * 512 + r.val, rows_lt t r⟩ ⟨t.val % 4 * 1024 + n.val, cols_lt t n⟩ := by
  have hr := r.isLt
  by_cases ht : t.val < 64
  · rw [left_prompt m c t ht, tile_apply, blk4_apply m c t ht]
    refine congrArg₂ (· + ·) ?_ (congrArg (· * _) (blk6_apply m c t _ n))
    unfold old
    rw [dif_pos (show t.val / 4 * 512 + r.val < 8192 by omega)]
  · rw [left_sample m c t (by omega), tile_apply, blk5_apply m c t (by omega)]
    refine congrArg₂ (· + ·) ?_ (congrArg (· * _) (blk6_apply m c t _ n))
    unfold old
    rw [dif_neg (show ¬ t.val / 4 * 512 + r.val < 8192 by omega)]

/-- The result's array, an element. -/
theorem final_apply (c : Dev nD) (i : S9216x4096.Idx) :
    ((dats m 0 c).arrAt 7 cfg0.N : FVec Ideal S9216x4096 .f32) i = resOf m c (i 0) (i 1) :=
  (dats m 0 c).arrAt_forall_of_covers 7 (fun (i : S9216x4096.Idx) (v : EReal) => v = resOf m c (i 0) (i 1)) (by decide +kernel)
    (fun t hf y => by
      have e0 : ((win0_7.rect t).emb y 0).val = t.val / 4 * 512 + (y 0).val :=
        (Window.rect_emb_val win0_7 t y 0 rfl).trans (by rw [(index7 t).1]; rfl)
      have e1 : ((win0_7.rect t).emb y 1).val = t.val % 4 * 1024 + (y 1).val :=
        (Window.rect_emb_val win0_7 t y 1 rfl).trans (by rw [(index7 t).2]; rfl)
      show ((dats m 0 c).after 7 t : FVec Ideal S512x1024 .f32) ((cfg0.win 7).xinj (cfg0.grid.coords t) y) = resOf m c ((win0_7.rect t).emb y 0) ((win0_7.rect t).emb y 1)
      rw [after0_7]
      refine (congrArg _ (eq_ix2 (n0 := 512) (n1 := 1024) _)).trans ?_
      refine (left_apply m c t _ _).trans ?_
      exact congrArg₂ (resOf m c) (Fin.ext e0.symm) (Fin.ext e1.symm)) i

end Cert.Kernel3Ideal.Hand

end
-- ==== Proof.Hand.OutRef.lean ====
/- The plain out-projection at an element: the contraction over both mixers' outputs splits in two, and the rows of a
   sequence are the result's rows. -/
module

public import proofs.«01_k».proof.Proof.Hand.OutValue
public import proofs.«01_k».proof.Proof.Gen.Reference3Ideal.Run
public import proofs.«01_k».proof.Proof.Gen.Reference3Ideal.Read

@[expose] public section

set_option maxRecDepth 16384

noncomputable section

namespace Cert.Reference3Ideal.Hand

open Cert.Reference3Ideal Cert.Reference3Ideal.Gen Cert.Reference3Ideal.Read Cert.Kernel3Ideal.Hand
open Idealize.ShloMosaic Idealize.ShloMosaic.TcCoe Idealize.ShloMosaic.ValueIdx Idealize.SL.Sem
open scoped BigOperators

variable (ym yr : FVec Ideal S9216x2048 .f32) (w : FVec Ideal S1x4096x4096 .f32) (xp : FVec Ideal S4x2048x4096 .f32)
  (xs : FVec Ideal S16x64x4096 .f32) (g : FVec Ideal S20x4096 .f32)

/-- The weights as a matrix. -/
theorem mat_apply (k n : Fin 4096) : val_main_v1 (F := Ideal) w (ix2 k n) = w (ix3 0 k n) := by
  rw [val_main_v1_apply]
  refine congrArg w (funext fun a => Fin.ext ?_)
  have hk := k.isLt
  have hn := n.isLt
  match a with
  | ⟨0, _⟩ => rfl
  | ⟨1, _⟩ => show (k.val * 4096 + n.val) / 4096 % 4096 = k.val; omega
  | ⟨2, _⟩ => show (k.val * 4096 + n.val) % 4096 = n.val; omega

/-- The outputs side by side: the first mixer's, then the second's. -/
theorem cat_left (r : Fin 9216) (k : Fin 2048) : val_main_v0 (F := Ideal) ym yr (ix2 r ⟨k.val, by omega⟩) = ym (ix2 r k) :=
  concatenate_pair_apply_left (t := S9216x4096) (s₁ := S9216x2048) (s₂ := S9216x2048) 1 ym yr concatenates_S9216x2048_S9216x2048_S9216x4096_d1
    (ix2 r ⟨k.val, by omega⟩) rfl (ix2 r k) (fun b => match b with | ⟨0, _⟩ => rfl | ⟨1, _⟩ => rfl)

theorem cat_right (r : Fin 9216) (k : Fin 2048) : val_main_v0 (F := Ideal) ym yr (ix2 r ⟨2048 + k.val, by omega⟩) = yr (ix2 r k) :=
  concatenate_pair_apply_right (t := S9216x4096) (s₁ := S9216x2048) (s₂ := S9216x2048) 1 ym yr concatenates_S9216x2048_S9216x2048_S9216x4096_d1
    (ix2 r ⟨2048 + k.val, by omega⟩) rfl rfl (ix2 r k) (fun b hb => match b, hb with
      | ⟨0, _⟩, _ => rfl
      | ⟨1, _⟩, hb => absurd rfl hb) (Nat.add_comm _ _)

/-- The product, an element. -/
theorem prod_apply (r : Fin 9216) (n : Fin 4096) : val_main_v2 (F := Ideal) ym yr w (ix2 r n) = both ym yr w r n := by
  rw [val_main_v2_apply]
  have e : ∀ k : Fin 4096, val_main_v0 (F := Ideal) ym yr (lidx_main_v2 (ix2 r n) k) * val_main_v1 (F := Ideal) w (ridx_main_v2 (ix2 r n) k)
      = val_main_v0 (F := Ideal) ym yr (ix2 r k) * w (ix3 0 k n) := fun k => by
    have el : lidx_main_v2 (ix2 r n) k = ix2 r k := funext fun a => match a with | ⟨0, _⟩ => rfl | ⟨1, _⟩ => rfl
    have er : ridx_main_v2 (ix2 r n) k = ix2 k n := funext fun a => match a with | ⟨0, _⟩ => rfl | ⟨1, _⟩ => rfl
    rw [el, er, mat_apply]
  refine (Finset.sum_congr rfl fun k _ => e k).trans ?_
  refine (Fin.sum_univ_add (a := 2048) (b := 2048) fun k : Fin 4096 => val_main_v0 (F := Ideal) ym yr (ix2 r k) * w (ix3 0 k n)).trans ?_
  unfold both
  refine congrArg₂ (· + ·) (Finset.sum_congr rfl fun k _ => ?_) (Finset.sum_congr rfl fun k _ => ?_)
  · exact congrArg (· * _) (cat_left ym yr r k)
  · exact congrArg (· * _) (cat_right ym yr r k)

/-- A prompt's rows. -/
theorem prompt_apply (i : S8192x4096.Idx) :
    val_main_v17 (F := Ideal) ym yr w xp g i = res ym yr w xp xs g ⟨(i 0).val, lt_trans (i 0).isLt (by decide)⟩ (i 1) := by
  have hr : (i 0).val < 8192 := (i 0).isLt
  have hn : (i 1).val < 4096 := (i 1).isLt
  rw [val_main_v17_apply, val_main_v9_apply, val_main_v8_apply, val_main_v7_apply, val_main_v4_apply, val_main_v3_apply,
    val_main_v6_apply, val_main_v5_apply]
  unfold res old
  rw [dif_pos hr]
  refine congrArg₂ (· + ·) (congrArg xp (funext fun a => Fin.ext ?_)) (congrArg₂ (· * ·) (congrArg g (funext fun a => Fin.ext ?_)) ?_)
  · match a with
    | ⟨0, _⟩ => show ((i 0).val * 4096 + (i 1).val) / 8388608 = (i 0).val / 2048; omega
    | ⟨1, _⟩ => show ((i 0).val * 4096 + (i 1).val) / 4096 % 2048 = (i 0).val % 2048; omega
    | ⟨2, _⟩ => show ((i 0).val * 4096 + (i 1).val) % 4096 = (i 1).val; omega
  · match a with
    | ⟨0, _⟩ => show ((i 0).val * 4096 + (i 1).val) / 8388608 = seqOf (i 0).val; unfold seqOf; rw [if_pos hr]; omega
    | ⟨1, _⟩ => show ((i 0).val * 4096 + (i 1).val) % 4096 = (i 1).val; omega
  · refine Eq.trans (congrArg _ (funext fun a => Fin.ext ?_)) (prod_apply ym yr w _ _)
    match a with
    | ⟨0, _⟩ =>
      show ((((i 0).val * 4096 + (i 1).val) / 8388608 * 2048 + ((i 0).val * 4096 + (i 1).val) / 4096 % 2048) * 4096 + ((i 0).val * 4096 + (i 1).val) % 4096) / 4096 = (i 0).val
      omega
    | ⟨1, _⟩ =>
      show ((((i 0).val * 4096 + (i 1).val) / 8388608 * 2048 + ((i 0).val * 4096 + (i 1).val) / 4096 % 2048) * 4096 + ((i 0).val * 4096 + (i 1).val) % 4096) % 4096 = (i 1).val
      omega

/-- A sample's rows. -/
theorem sample_apply (i : S1024x4096.Idx) (r : Fin 9216) (e : r.val = 8192 + (i 0).val) :
    val_main_v18 (F := Ideal) ym yr w xs g i = res ym yr w xp xs g r (i 1) := by
  have hr : (i 0).val < 1024 := (i 0).isLt
  have hn : (i 1).val < 4096 := (i 1).isLt
  rw [val_main_v18_apply, val_main_v16_apply, val_main_v15_apply, val_main_v14_apply, val_main_v11_apply, val_main_v10_apply,
    val_main_v13_apply, val_main_v12_apply]
  unfold res old
  rw [dif_neg (by omega)]
  refine congrArg₂ (· + ·) (congrArg xs (funext fun a => Fin.ext ?_)) (congrArg₂ (· * ·) (congrArg g (funext fun a => Fin.ext ?_)) ?_)
  · match a with
    | ⟨0, _⟩ => show ((i 0).val * 4096 + (i 1).val) / 262144 = (r.val - 8192) / 64; omega
    | ⟨1, _⟩ => show ((i 0).val * 4096 + (i 1).val) / 4096 % 64 = (r.val - 8192) % 64; omega
    | ⟨2, _⟩ => show ((i 0).val * 4096 + (i 1).val) % 4096 = (i 1).val; omega
  · match a with
    | ⟨0, _⟩ => show 4 + ((i 0).val * 4096 + (i 1).val) / 262144 = seqOf r.val; unfold seqOf; rw [if_neg (by omega)]; omega
    | ⟨1, _⟩ => show ((i 0).val * 4096 + (i 1).val) % 4096 = (i 1).val; omega
  · refine Eq.trans (congrArg _ (funext fun a => Fin.ext ?_)) (prod_apply ym yr w _ _)
    match a with
    | ⟨0, _⟩ =>
      show 8192 + ((((i 0).val * 4096 + (i 1).val) / 262144 * 64 + ((i 0).val * 4096 + (i 1).val) / 4096 % 64) * 4096 + ((i 0).val * 4096 + (i 1).val) % 4096) / 4096 = r.val
      omega
    | ⟨1, _⟩ =>
      show ((((i 0).val * 4096 + (i 1).val) / 262144 * 64 + ((i 0).val * 4096 + (i 1).val) / 4096 % 64) * 4096 + ((i 0).val * 4096 + (i 1).val) % 4096) % 4096 = (i 1).val
      omega

set_option maxRecDepth 100000 in
/-- The reference's result, an element. -/
theorem ref_apply (i : S9216x4096.Idx) : val_main_v19 (F := Ideal) ym yr w xp xs g i = res ym yr w xp xs g (i 0) (i 1) := by
  have h9 : (i 0).val < 9216 := (i 0).isLt
  unfold val_main_v19
  by_cases h : (i 0).val < 8192
  · rw [concatenate_pair_apply_left (t := S9216x4096) (s₁ := S8192x4096) (s₂ := S1024x4096) 0 (val_main_v17 (F := Ideal) ym yr w xp g)
      (val_main_v18 (F := Ideal) ym yr w xs g) concatenates_S8192x4096_S1024x4096_S9216x4096_d0 i rfl (ix2 ⟨(i 0).val, h⟩ (i 1))
      (fun b => match b with | ⟨0, _⟩ => rfl | ⟨1, _⟩ => rfl), prompt_apply ym yr w xp xs g]
    rfl
  · rw [concatenate_pair_apply_right (t := S9216x4096) (s₁ := S8192x4096) (s₂ := S1024x4096) 0 (val_main_v17 (F := Ideal) ym yr w xp g)
      (val_main_v18 (F := Ideal) ym yr w xs g) concatenates_S8192x4096_S1024x4096_S9216x4096_d0 i rfl rfl (ix2 ⟨(i 0).val - 8192, by omega⟩ (i 1))
      (fun b hb => match b, hb with
        | ⟨0, _⟩, hb => absurd rfl hb
        | ⟨1, _⟩, _ => rfl) (Nat.sub_add_cancel (Nat.le_of_not_lt h)),
      sample_apply ym yr w xp xs g _ (i 0) (Nat.add_sub_cancel' (Nat.le_of_not_lt h)).symm]

end Cert.Reference3Ideal.Hand

end
-- ==== Proof.lean ====
/- The claims: the frames of version v07's RWKV-7 scan and of its two projections, at the hardware's numbers and at the
   ideal ones, and the projections' values against the plain ones. Each run is proved once, for any float instance. -/
module

public import proofs.«01_k».proof.Defs
public import proofs.«01_k».proof.Proof.Gen.Kernel
public import proofs.«01_k».proof.Proof.Gen.KernelIdeal
public import proofs.«01_k».proof.Proof.Hand.Frame
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.On_columns_of_proj
public import proofs.«01_k».proof.Proof.Hand.InFrame
public import proofs.«01_k».proof.Proof.Hand.InValue
public import proofs.«01_k».proof.Proof.Hand.InRef
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Hand.OutValue
public import proofs.«01_k».proof.Proof.Hand.OutRef
public import Idealize.ShloMosaic.Adequacy
public import Idealize.ShloMosaic.Init

@[expose] public section

noncomputable section

open Idealize
open Idealize.ShloMosaic
open Idealize.SL.Sem

namespace Cert.Proof

set_option maxRecDepth 200000 in
set_option maxHeartbeats 2000000 in
/-- The two programs' bodies are one text. -/
theorem body_eq : Cert.Kernel.cc0_rwkv (F := Bits) = Cert.KernelIdeal.cc0_rwkv (F := Bits) := rfl

set_option maxHeartbeats 2000000 in
/-- So are their body tables. -/
theorem table_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => dsimp only []; rw [body_eq]; rfl

set_option maxHeartbeats 2000000 in
/-- And the tables with the pipeline's own labels. -/
theorem defs_eq : Cert.Kernel.defs (F := Bits) = Cert.KernelIdeal.defs (F := Bits) := congrArg (Pipeline.defs _) table_eq

set_option maxHeartbeats 2000000 in
/-- The host programs are one text. -/
theorem main_eq : Cert.Kernel.main (F := Bits) = Cert.KernelIdeal.main (F := Bits) := rfl

set_option maxHeartbeats 4000000 in
/-- The scan's frame at the hardware's numbers. -/
theorem scan_bits : Cert.quiescent_Kernel := fun m g _ => by
  rw [defs_eq, main_eq]
  exact Cert.KernelIdeal.Hand.framed (F := Bits) m g

/-- The scan's frame at the ideal numbers. -/
theorem scan_ideal : Cert.quiescent_KernelIdeal := fun m g _ => Cert.KernelIdeal.Hand.framed (F := Ideal) m g

/-! ## The in-projection -/

set_option maxRecDepth 200000 in
set_option maxHeartbeats 2000000 in
/-- The projection's two bodies are one text. -/
theorem in_body_eq : Cert.Kernel2.cc0_inproj (F := Bits) = Cert.Kernel2Ideal.cc0_inproj (F := Bits) := rfl

set_option maxHeartbeats 2000000 in
/-- So are their body tables. -/
theorem in_table_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => dsimp only []; rw [in_body_eq]; rfl

set_option maxHeartbeats 2000000 in
/-- And the tables with the pipeline's own labels. -/
theorem in_defs_eq : Cert.Kernel2.defs (F := Bits) = Cert.Kernel2Ideal.defs (F := Bits) := congrArg (Pipeline.defs _) in_table_eq

set_option maxHeartbeats 2000000 in
/-- The host programs are one text. -/
theorem in_main_eq : Cert.Kernel2.main (F := Bits) = Cert.Kernel2Ideal.main (F := Bits) := rfl

/-- The projection ends with its arguments as they were and every counter at zero, at any float instance. -/
theorem in_framed {F : FTy → Type} [FloatOps F]
    (m : (ℓ : Loc Cert.Kernel2Ideal.nD Cert.Kernel2Ideal.τ Cert.Kernel2Ideal.sig) → Buf (Elt F) ℓ) (g : Dev Cert.Kernel2Ideal.nD → PrngReg) :
    θ_run (Cert.Kernel2Ideal.defs (F := F)) (onTc (τ := Cert.Kernel2Ideal.τ) (Cert.Kernel2Ideal.main (F := F))) ⟨m, fun _ => 0, g⟩
      (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
        ∧ r.2.sem = fun _ => 0) :=
  (θ_run _ _ _).mono (fun _ h => ⟨fun c => Cert.Kernel2Ideal.Hand.kept m h.1 c, h.2⟩) (Cert.Kernel2Ideal.Hand.run_main m g)

set_option maxHeartbeats 4000000 in
/-- The projection's frame at the hardware's numbers. -/
theorem in_bits : Cert.quiescent_Kernel2 := fun m g _ => by
  rw [in_defs_eq, in_main_eq]
  exact in_framed (F := Bits) m g

/-- The projection's frame at the ideal numbers. -/
theorem in_ideal : Cert.quiescent_Kernel2Ideal := fun m g _ => in_framed (F := Ideal) m g

/-- The plain projection's frame. -/
theorem in_ref : Cert.quiescent_Reference2Ideal := fun m ρ _ =>
  (θ_run Cert.Reference2Ideal.defs _ _).mono
    (fun r h => ⟨fun c => ⟨(h c).2.1, (h c).2.2⟩, Idealize.ShloMosaic.sem_eq_zero_of_no_sems (by decide) r.2⟩)
    (Cert.Reference2Ideal.Value.run (F := Ideal) m ρ)

/-- On the columns that the projection is read in, the kernel computes the plain product. -/
theorem in_value : Cert.algebraic_Kernel2Ideal_Reference2Ideal_on_columns_of_proj := fun m g m' g' _ hm =>
  ⟨fun c => Cert.Reference2Ideal.Read.val_main_v6 (F := Ideal) (Cert.Kernel2Ideal.Hand.act m c) (Cert.Kernel2Ideal.Hand.wts m c),
    (θ_run _ _ _).mono (fun r h c => ⟨fun i hi =>
        (Cert.Kernel2Ideal.Hand.result_apply m c h.1 i (Cert.On_columns_of_proj.fn_apply _ _ i hi)).trans
          (Cert.Reference2Ideal.Hand.ref_apply _ _ i (Cert.On_columns_of_proj.fn_apply _ _ i hi)).symm,
      (Cert.Kernel2Ideal.Hand.kept m h.1 c).1, (Cert.Kernel2Ideal.Hand.kept m h.1 c).2⟩) (Cert.Kernel2Ideal.Hand.run_main m g),
    (θ_run _ _ _).mono (fun r h c => ⟨fun i _ => by
        refine (congrFun ((h c).1.trans (Cert.Reference2Ideal.Read.val_main_v6_eq _ _)) i).trans ?_
        rw [(hm c).1, (hm c).2],
      (h c).2.1, (h c).2.2⟩) (Cert.Reference2Ideal.Value.run (F := Ideal) m' g')⟩

/-! ## The out-projection -/

set_option maxRecDepth 200000 in
set_option maxHeartbeats 2000000 in
/-- The out-projection's two bodies are one text. -/
theorem out_body_eq : Cert.Kernel3.cc0_outproj (F := Bits) = Cert.Kernel3Ideal.cc0_outproj (F := Bits) := rfl

set_option maxHeartbeats 2000000 in
/-- So are their body tables. -/
theorem out_table_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => dsimp only []; rw [out_body_eq]; rfl

set_option maxHeartbeats 2000000 in
/-- And the tables with the pipeline's own labels. -/
theorem out_defs_eq : Cert.Kernel3.defs (F := Bits) = Cert.Kernel3Ideal.defs (F := Bits) := congrArg (Pipeline.defs _) out_table_eq

set_option maxHeartbeats 2000000 in
/-- The host programs are one text. -/
theorem out_main_eq : Cert.Kernel3.main (F := Bits) = Cert.Kernel3Ideal.main (F := Bits) := rfl

set_option maxHeartbeats 4000000 in
/-- The out-projection's frame at the hardware's numbers. -/
theorem out_bits : Cert.quiescent_Kernel3 := fun m g _ => by
  rw [out_defs_eq, out_main_eq]
  exact Cert.Kernel3Ideal.Gen.frame (F := Bits) m g

/-- The out-projection's frame at the ideal numbers. -/
theorem out_ideal : Cert.quiescent_Kernel3Ideal := fun m g _ => Cert.Kernel3Ideal.Gen.frame (F := Ideal) m g

/-- The plain out-projection's frame. -/
theorem out_ref : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The out-projection's kernel computes the residual rows plus the gated plain product. -/
theorem out_value : Cert.algebraic_Kernel3Ideal_Reference3Ideal := fun m g m' g' _ hm =>
  ⟨fun c i => Cert.Kernel3Ideal.Hand.resOf m c (i 0) (i 1),
    (θ_run _ _ _).mono (fun r h c => ⟨(h c).1.trans (funext fun i => Cert.Kernel3Ideal.Hand.final_apply m c i), (h c).2⟩)
      (Cert.Kernel3Ideal.Value.run_blocks (F := Ideal) m g),
    (θ_run _ _ _).mono (fun r h c => ⟨((h c).1.trans (Cert.Reference3Ideal.Read.val_main_v19_eq _ _ _ _ _ _)).trans (funext fun i => by
        obtain ⟨h0, h1, h2, h3, h4, h5⟩ := hm c
        rw [h0, h1, h2, h3, h4, h5]
        exact Cert.Reference3Ideal.Hand.ref_apply _ _ _ _ _ _ i), (h c).2⟩) (Cert.Reference3Ideal.Value.run (F := Ideal) m' g')⟩

/-- The certificate. -/
theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.On_columns_of_proj.Gen.facts, scan_bits, scan_ideal, in_bits, in_ideal, in_ref, out_bits, out_ideal, out_ref, trivial,
    in_value, trivial, out_value⟩

end Cert.Proof

end

end
